-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_inputs [hPre_plain_inputs : Cert.Pre_plain_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_plain_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_plain_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_plain_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_inputs [hPre_plain_inputs : Cert.Pre_plain_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_plain_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_plain_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_plain_inputs [hKernelIdeal : Cert.KernelIdeal.Facts] [hPre_plain_inputs : Cert.Pre_plain_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_plain_inputs [hReferenceIdeal : Cert.ReferenceIdeal.Facts] [hPre_plain_inputs : Cert.Pre_plain_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_on_loss_where_one_winner_pre_plain_inputs [hKernelIdeal : Cert.KernelIdeal.Facts] [hReferenceIdeal : Cert.ReferenceIdeal.Facts] [hPre_plain_inputs : Cert.Pre_plain_inputs.Facts] [hOn_loss_where_one_winner : Cert.On_loss_where_one_winner.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          (∀ i : (⟨3, ![8, 1024, 384]⟩ : Shape).Idx, (Cert.On_loss_where_one_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v5) i = v0 c i)
          ∧ (∀ i : (⟨0, ![]⟩ : Shape).Idx, (Cert.On_loss_where_one_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v6) i = v1 c i)
          ∧ (∀ i : (⟨2, ![8, 1024]⟩ : Shape).Idx, (Cert.On_loss_where_one_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 i = 1#1 → r.2.mem ((c.tc : Thread Cert.KernelIdeal.nD Cert.KernelIdeal.τ).loc Cert.KernelIdeal.main_v7) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 1024, 384]⟩ : Shape).Idx, (Cert.On_loss_where_one_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v39) i = v0 c i)
          ∧ (∀ i : (⟨0, ![]⟩ : Shape).Idx, (Cert.On_loss_where_one_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v57) i = v1 c i)
          ∧ (∀ i : (⟨2, ![8, 1024]⟩ : Shape).Idx, (Cert.On_loss_where_one_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 i = 1#1 → r.2.mem ((c.tc : Thread Cert.ReferenceIdeal.nD Cert.ReferenceIdeal.τ).loc Cert.ReferenceIdeal.main_v32) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_plain_inputs : Cert.Pre_plain_inputs.Facts) (hOn_loss_where_one_winner : Cert.On_loss_where_one_winner.Facts),
    quiescent_Kernel (hKernel := hKernel)
    ∧ quiescent_KernelIdeal (hKernelIdeal := hKernelIdeal)
    ∧ quiescent_KernelIdeal_pre_plain_inputs (hKernelIdeal := hKernelIdeal) (hPre_plain_inputs := hPre_plain_inputs)
    ∧ quiescent_ReferenceIdeal (hReferenceIdeal := hReferenceIdeal)
    ∧ quiescent_ReferenceIdeal_pre_plain_inputs (hReferenceIdeal := hReferenceIdeal) (hPre_plain_inputs := hPre_plain_inputs)
    ∧ preserves_Kernel_KernelIdeal
    ∧ algebraic_KernelIdeal_ReferenceIdeal_on_loss_where_one_winner_pre_plain_inputs (hKernelIdeal := hKernelIdeal) (hReferenceIdeal := hReferenceIdeal) (hPre_plain_inputs := hPre_plain_inputs) (hOn_loss_where_one_winner := hOn_loss_where_one_winner)
-- ==== On_loss_where_one_winner.lean ====
abbrev S8x1024x384 : Shape := ⟨3, ![8, 1024, 384]⟩
abbrev S8x1024 : Shape := ⟨2, ![8, 1024]⟩
abbrev S384x64 : Shape := ⟨2, ![384, 64]⟩
abbrev S64 : Shape := ⟨1, ![64]⟩
abbrev S64x384 : Shape := ⟨2, ![64, 384]⟩
abbrev S384 : Shape := ⟨1, ![384]⟩
abbrev S1024x64 : Shape := ⟨2, ![1024, 64]⟩
abbrev S_ : Shape := ⟨0, ![]⟩
abbrev S8x1024x1 : Shape := ⟨3, ![8, 1024, 1]⟩
abbrev S8x1024x64 : Shape := ⟨3, ![8, 1024, 64]⟩
abbrev S1024 : Shape := ⟨1, ![1024]⟩
abbrev S1024x1 : Shape := ⟨2, ![1024, 1]⟩
abbrev S8x1024x1024 : Shape := ⟨3, ![8, 1024, 1024]⟩

class Facts : Prop where
  reducesTo_S8x1024x384_S8x1024_d2 : S8x1024x384.ReducesTo [2] S8x1024
  h_S_ : 0 < S_.numel
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S8x1024x1_S8x1024x384_0_1_2 : S8x1024x1.BroadcastsInDim S8x1024x384 (![0, 1, 2] : Fin 3 → Fin S8x1024x384.rank)
  reducesTo_S8x1024x64_S8x1024_d2 : S8x1024x64.ReducesTo [2] S8x1024
  bcast_S8x1024x1_S8x1024x64_0_1_2 : S8x1024x1.BroadcastsInDim S8x1024x64 (![0, 1, 2] : Fin 3 → Fin S8x1024x64.rank)
  reducesTo_S1024x64_S1024_d1 : S1024x64.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  reducesTo_S8x1024x1024_S8x1024_d2 : S8x1024x1024.ReducesTo [2] S8x1024
  bcast_S8x1024x1_S8x1024x1024_0_1_2 : S8x1024x1.BroadcastsInDim S8x1024x1024 (![0, 1, 2] : Fin 3 → Fin S8x1024x1024.rank)
  reducesTo_S8x1024x1024_S_d0_1_2 : S8x1024x1024.ReducesTo [0, 1, 2] S_
  bcast_S_S8x1024x384 : S_.BroadcastsInDim S8x1024x384 (![] : Fin 0 → Fin S8x1024x384.rank)
  bcast_S_S8x1024 : S_.BroadcastsInDim S8x1024 (![] : Fin 0 → Fin S8x1024.rank)
  dot_S8x1024x384_S384x64_S8x1024x64_2_0_01_1_n_n_wf : DotDims.WF S8x1024x384 S384x64 S8x1024x64 [2] [0] [0, 1] [1] [] []
  dot_S8x1024x64_S1024x64_S8x1024x1024_2_1_01_0_n_n_wf : DotDims.WF S8x1024x64 S1024x64 S8x1024x1024 [2] [1] [0, 1] [0] [] []

variable [Facts]

variable {F : FTy → Type} [FloatOps F]
def dot_S8x1024x384_S384x64_S8x1024x64_2_0_01_1_n_n : DotDims S8x1024x384 S384x64 S8x1024x64 where
  lhsContracting := [2]
  rhsContracting := [0]
  lhsNonContracting := [0, 1]
  rhsNonContracting := [1]
  lhsBatch := []
  rhsBatch := []
  wf := dot_S8x1024x384_S384x64_S8x1024x64_2_0_01_1_n_n_wf
def dot_S8x1024x64_S1024x64_S8x1024x1024_2_1_01_0_n_n : DotDims S8x1024x64 S1024x64 S8x1024x1024 where
  lhsContracting := [2]
  rhsContracting := [1]
  lhsNonContracting := [0, 1]
  rhsNonContracting := [0]
  lhsBatch := []
  rhsBatch := []
  wf := dot_S8x1024x64_S1024x64_S8x1024x1024_2_1_01_0_n_n_wf
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_argmax {F : FTy → Type} [FloatOps F] (arg0 : FVec F S8x1024x1024 .f32) : IVec S8x1024 32 :=
  let v0 : IVec S8x1024x1024 32 := iotaInDim S8x1024x1024 32 2
  let cst : FVec F S_ .f32 := constant S_ .f32 0xFF800000#32
  let c : IVec S_ 32 := constantI S_ 32 0#32
  let v1_0 : FVec F S8x1024 .f32 := (fun x y u v j => (Host.argReduce reducer_argmax_f32_i32 x y u v reducesTo_S8x1024x1024_S8x1024_d2 h_S_ j).1) arg0 v0 cst c
  let v1_1 : IVec S8x1024 32 := (fun x y u v j => (Host.argReduce reducer_argmax_f32_i32 x y u v reducesTo_S8x1024x1024_S8x1024_d2 h_S_ j).2) arg0 v0 cst c
  v1_1

def fn_part2 {F : FTy → Type} [FloatOps F] (main_v36 : IVec S_ 1) (main_v37 : IVec S8x1024x384 1) (main_c_7 : IVec S_ 1) : IVec S8x1024x384 1 × IVec S_ 1 × IVec S8x1024 1 :=
  let main_v38 : IVec S8x1024 1 := broadcastInDim S8x1024 ![] bcast_S_S8x1024 main_c_7
  (main_v37, main_v36, main_v38)

def fn_part1 {F : FTy → Type} [FloatOps F] (main_arg6 : FVec F S1024x64 .f32) (main_v16 : FVec F S8x1024x64 .f32) (main_v18 : FVec F S1024 .f32) : IVec S8x1024x384 1 × IVec S_ 1 × IVec S8x1024 1 :=
  let main_v19 : FVec F S1024x1 .f32 := broadcastInDim S1024x1 ![0] bcast_S1024_S1024x1_0 main_v18
  let main_cst_4 : FVec F S_ .f32 := constant S_ .f32 0x358637BD#32
  let main_v20 : FVec F S1024x1 .f32 := broadcastInDim S1024x1 ![] bcast_S_S1024x1 main_cst_4
  let main_v21 : FVec F S1024x1 .f32 := maximumf main_v19 main_v20
  let main_v22 : FVec F S1024x1 .f32 := Host.rsqrt main_v21
  let main_v23 : FVec F S1024x64 .f32 := broadcastInDim S1024x64 ![0, 1] bcast_S1024x1_S1024x64_0_1 main_v22
  let main_v24 : FVec F S1024x64 .f32 := mulf main_arg6 main_v23
  let main_v25 : FVec F S8x1024x1024 .f32 := (fun l r => Host.dotGeneral dot_S8x1024x64_S1024x64_S8x1024x1024_2_1_01_0_n_n none l r) main_v16 main_v24
  let main_cst_5 : FVec F S_ .f32 := constant S_ .f32 0xFF800000#32
  let main_v26 : FVec F S8x1024 .f32 := (fun x v => Host.reduce FloatOps.maximumf x v reducesTo_S8x1024x1024_S8x1024_d2 h_S_) main_v25 main_cst_5
  let main_v27 : FVec F S8x1024x1 .f32 := broadcastInDim S8x1024x1 ![0, 1] bcast_S8x1024_S8x1024x1_0_1 main_v26
  let main_v28 : IVec S8x1024 32 := fn_argmax (F := F) main_v25
  let main_v29 : IVec S8x1024x1024 32 := iotaInDim S8x1024x1024 32 2
  let main_v30 : FVec F S8x1024x1024 .f32 := broadcastInDim S8x1024x1024 ![0, 1, 2] bcast_S8x1024x1_S8x1024x1024_0_1_2 main_v27
  let main_v31 : IVec S8x1024x1024 1 := cmpf .olt main_v25 main_v30
  let main_v32 : IVec S8x1024x1 32 := broadcastInDim S8x1024x1 ![0, 1] bcast_S8x1024_S8x1024x1_0_1 main_v28
  let main_v33 : IVec S8x1024x1024 32 := broadcastInDim S8x1024x1024 ![0, 1, 2] bcast_S8x1024x1_S8x1024x1024_0_1_2 main_v32
  let main_v34 : IVec S8x1024x1024 1 := cmpi .eq main_v29 main_v33
  let main_v35 : IVec S8x1024x1024 1 := ori main_v31 main_v34
  let main_c : IVec S_ 1 := constantI S_ 1 1#1
  let main_v36 : IVec S_ 1 := (fun x v => Host.reduce IntOp.andi x v reducesTo_S8x1024x1024_S_d0_1_2 h_S_) main_v35 main_c
  let main_c_6 : IVec S_ 1 := constantI S_ 1 1#1
  let main_v37 : IVec S8x1024x384 1 := broadcastInDim S8x1024x384 ![] bcast_S_S8x1024x384 main_c_6
  let main_c_7 : IVec S_ 1 := constantI S_ 1 1#1
  fn_part2 (F := F) main_v36 main_v37 main_c_7

def fn {F : FTy → Type} [FloatOps F] (main_arg0 : FVec F S8x1024x384 .f32) (main_arg1 : FVec F S8x1024 .f32) (main_arg2 : FVec F S384x64 .f32) (main_arg3 : FVec F S64 .f32) (main_arg4 : FVec F S64x384 .f32) (main_arg5 : FVec F S384 .f32) (main_arg6 : FVec F S1024x64 .f32) : IVec S8x1024x384 1 × IVec S_ 1 × IVec S8x1024 1 :=
  let main_v0 : FVec F S8x1024x384 .f32 := mulf main_arg0 main_arg0
  let main_cst : FVec F S_ .f32 := constant S_ .f32 0x00000000#32
  let main_v1 : FVec F S8x1024 .f32 := (fun x v => Host.reduceAdd x v reducesTo_S8x1024x384_S8x1024_d2 h_S_) main_v0 main_cst
  let main_v2 : FVec F S8x1024x1 .f32 := broadcastInDim S8x1024x1 ![0, 1] bcast_S8x1024_S8x1024x1_0_1 main_v1
  let main_cst_0 : FVec F S_ .f32 := constant S_ .f32 0x358637BD#32
  let main_v3 : FVec F S8x1024x1 .f32 := broadcastInDim S8x1024x1 ![] bcast_S_S8x1024x1 main_cst_0
  let main_v4 : FVec F S8x1024x1 .f32 := maximumf main_v2 main_v3
  let main_v5 : FVec F S8x1024x1 .f32 := Host.rsqrt main_v4
  let main_v6 : FVec F S8x1024x384 .f32 := broadcastInDim S8x1024x384 ![0, 1, 2] bcast_S8x1024x1_S8x1024x384_0_1_2 main_v5
  let main_v7 : FVec F S8x1024x384 .f32 := mulf main_arg0 main_v6
  let main_v8 : FVec F S8x1024x64 .f32 := (fun l r => Host.dotGeneral dot_S8x1024x384_S384x64_S8x1024x64_2_0_01_1_n_n none l r) main_v7 main_arg2
  let main_v9 : FVec F S8x1024x64 .f32 := mulf main_v8 main_v8
  let main_cst_1 : FVec F S_ .f32 := constant S_ .f32 0x00000000#32
  let main_v10 : FVec F S8x1024 .f32 := (fun x v => Host.reduceAdd x v reducesTo_S8x1024x64_S8x1024_d2 h_S_) main_v9 main_cst_1
  let main_v11 : FVec F S8x1024x1 .f32 := broadcastInDim S8x1024x1 ![0, 1] bcast_S8x1024_S8x1024x1_0_1 main_v10
  let main_cst_2 : FVec F S_ .f32 := constant S_ .f32 0x358637BD#32
  let main_v12 : FVec F S8x1024x1 .f32 := broadcastInDim S8x1024x1 ![] bcast_S_S8x1024x1 main_cst_2
  let main_v13 : FVec F S8x1024x1 .f32 := maximumf main_v11 main_v12
  let main_v14 : FVec F S8x1024x1 .f32 := Host.rsqrt main_v13
  let main_v15 : FVec F S8x1024x64 .f32 := broadcastInDim S8x1024x64 ![0, 1, 2] bcast_S8x1024x1_S8x1024x64_0_1_2 main_v14
  let main_v16 : FVec F S8x1024x64 .f32 := mulf main_v8 main_v15
  let main_v17 : FVec F S1024x64 .f32 := mulf main_arg6 main_arg6
  let main_cst_3 : FVec F S_ .f32 := constant S_ .f32 0x00000000#32
  let main_v18 : FVec F S1024 .f32 := (fun x v => Host.reduceAdd x v reducesTo_S1024x64_S1024_d1 h_S_) main_v17 main_cst_3
  fn_part1 (F := F) main_arg6 main_v16 main_v18
-- ==== Pre_plain_inputs.lean ====
abbrev S8x1024x384 : Shape := ⟨3, ![8, 1024, 384]⟩
abbrev S8x1024 : Shape := ⟨2, ![8, 1024]⟩
abbrev S384x64 : Shape := ⟨2, ![384, 64]⟩
abbrev S64 : Shape := ⟨1, ![64]⟩
abbrev S64x384 : Shape := ⟨2, ![64, 384]⟩
abbrev S384 : Shape := ⟨1, ![384]⟩
abbrev S1024x64 : Shape := ⟨2, ![1024, 64]⟩
abbrev S_ : Shape := ⟨0, ![]⟩

class Facts : Prop where
  bcast_S_S8x1024 : S_.BroadcastsInDim S8x1024 (![] : Fin 0 → Fin S8x1024.rank)
  bcast_S_S64 : S_.BroadcastsInDim S64 (![] : Fin 0 → Fin S64.rank)
  bcast_S_S384 : S_.BroadcastsInDim S384 (![] : Fin 0 → Fin S384.rank)

variable [Facts]

def fn {F : FTy → Type} [FloatOps F] (main_arg0 : FVec F S8x1024x384 .f32) (main_arg1 : FVec F S8x1024 .f32) (main_arg2 : FVec F S384x64 .f32) (main_arg3 : FVec F S64 .f32) (main_arg4 : FVec F S64x384 .f32) (main_arg5 : FVec F S384 .f32) (main_arg6 : FVec F S1024x64 .f32) : IVec S8x1024 1 × IVec S64 1 × IVec S384 1 :=
  let main_cst : FVec F S_ .f32 := constant S_ .f32 0x3F800000#32
  let main_v0 : FVec F S8x1024 .f32 := broadcastInDim S8x1024 ![] bcast_S_S8x1024 main_cst
  let main_v1 : IVec S8x1024 1 := cmpf .oeq main_arg1 main_v0
  let main_cst_0 : FVec F S_ .f32 := constant S_ .f32 0x00000000#32
  let main_v2 : FVec F S64 .f32 := broadcastInDim S64 ![] bcast_S_S64 main_cst_0
  let main_v3 : IVec S64 1 := cmpf .oeq main_arg3 main_v2
  let main_cst_1 : FVec F S_ .f32 := constant S_ .f32 0x00000000#32
  let main_v4 : FVec F S384 .f32 := broadcastInDim S384 ![] bcast_S_S384 main_cst_1
  let main_v5 : IVec S384 1 := cmpf .oeq main_arg5 main_v4
  (main_v1, main_v3, main_v5)
-- ==== Kernel.lean ====
abbrev S8x1024x384 : Shape := ⟨3, ![8, 1024, 384]⟩
abbrev S8x1024 : Shape := ⟨2, ![8, 1024]⟩
abbrev S384x64 : Shape := ⟨2, ![384, 64]⟩
abbrev S64 : Shape := ⟨1, ![64]⟩
abbrev S64x384 : Shape := ⟨2, ![64, 384]⟩
abbrev S384 : Shape := ⟨1, ![384]⟩
abbrev S1024x64 : Shape := ⟨2, ![1024, 64]⟩
abbrev S8192x384 : Shape := ⟨2, ![8192, 384]⟩
abbrev S8192x1 : Shape := ⟨2, ![8192, 1]⟩
abbrev S1024x384 : Shape := ⟨2, ![1024, 384]⟩
abbrev S1x1 : Shape := ⟨2, ![1, 1]⟩
abbrev S512x384 : Shape := ⟨2, ![512, 384]⟩
abbrev S512x1 : Shape := ⟨2, ![512, 1]⟩
abbrev S1x1024 : Shape := ⟨2, ![1, 1024]⟩
abbrev S2 : Shape := ⟨1, ![2]⟩
abbrev S1024 : Shape := ⟨1, ![1024]⟩
abbrev S1024x1 : Shape := ⟨2, ![1024, 1]⟩
abbrev S1x64 : Shape := ⟨2, ![1, 64]⟩
abbrev S1 : Shape := ⟨1, ![1]⟩
abbrev S512 : Shape := ⟨1, ![512]⟩
abbrev S512x64 : Shape := ⟨2, ![512, 64]⟩
abbrev S512x1024 : Shape := ⟨2, ![512, 1024]⟩
abbrev S1x512x1 : Shape := ⟨3, ![1, 512, 1]⟩
abbrev S1x1x1 : Shape := ⟨3, ![1, 1, 1]⟩
abbrev S_ : Shape := ⟨0, ![]⟩
abbrev S32x2x128 : Shape := ⟨3, ![32, 2, 128]⟩
abbrev S2x128 : Shape := ⟨2, ![2, 128]⟩
abbrev S2x128x384 : Shape := ⟨3, ![2, 128, 384]⟩
abbrev S1x2x128 : Shape := ⟨3, ![1, 2, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1024x128 : Shape := ⟨2, ![1024, 128]⟩
abbrev S1x128x384 : Shape := ⟨3, ![1, 128, 384]⟩
abbrev S128x384 : Shape := ⟨2, ![128, 384]⟩

abbrev nBuf : Table → Nat
  | .hbm => 24
  | .local .tc .vmem => 10
  | .local .tc .smem => 2
  | .local .scVector .vmem => 2
  | _ => 0

abbrev bufTy : (tb : Table) → Fin (nBuf tb) → BufTy
  | .hbm, ⟨0, _⟩ => ⟨S8x1024x384, .f32⟩
  | .hbm, ⟨1, _⟩ => ⟨S8x1024, .f32⟩
  | .hbm, ⟨2, _⟩ => ⟨S384x64, .f32⟩
  | .hbm, ⟨3, _⟩ => ⟨S64, .f32⟩
  | .hbm, ⟨4, _⟩ => ⟨S64x384, .f32⟩
  | .hbm, ⟨5, _⟩ => ⟨S384, .f32⟩
  | .hbm, ⟨6, _⟩ => ⟨S1024x64, .f32⟩
  | .hbm, ⟨7, _⟩ => ⟨S8192x384, .f32⟩
  | .hbm, ⟨8, _⟩ => ⟨S8192x1, .i32⟩
  | .hbm, ⟨9, _⟩ => ⟨S1024x384, .f32⟩
  | .hbm, ⟨10, _⟩ => ⟨S1x1, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S8192x1, .i32⟩
  | .hbm, ⟨15, _⟩ => ⟨S8192x1, .i32⟩
  | .hbm, ⟨16, _⟩ => ⟨S_, .i32⟩
  | .hbm, ⟨17, _⟩ => ⟨S8192x1, .i32⟩
  | .hbm, ⟨18, _⟩ => ⟨S8192x1, .i32⟩
  | .hbm, ⟨19, _⟩ => ⟨S32x2x128, .i32⟩
  | .hbm, ⟨20, _⟩ => ⟨S8192x384, .f32⟩
  | .hbm, ⟨21, _⟩ => ⟨S8x1024x384, .f32⟩
  | .hbm, ⟨22, _⟩ => ⟨S_, .f32⟩
  | .hbm, ⟨23, _⟩ => ⟨S8x1024, .i32⟩
  | .local .tc .vmem, ⟨0, _⟩ => ⟨S512x384, .f32⟩
  | .local .tc .vmem, ⟨1, _⟩ => ⟨S512x384, .f32⟩
  | .local .tc .vmem, ⟨2, _⟩ => ⟨S384x64, .f32⟩
  | .local .tc .vmem, ⟨3, _⟩ => ⟨S64x384, .f32⟩
  | .local .tc .vmem, ⟨4, _⟩ => ⟨S1024x64, .f32⟩
  | .local .tc .vmem, ⟨5, _⟩ => ⟨S512x1, .i32⟩
  | .local .tc .vmem, ⟨6, _⟩ => ⟨S512x1, .i32⟩
  | .local .tc .vmem, ⟨7, _⟩ => ⟨S1024x384, .f32⟩
  | .local .tc .vmem, ⟨8, _⟩ => ⟨S1024x64, .f32⟩
  | .local .tc .vmem, ⟨9, _⟩ => ⟨S1x1024, .f32⟩
  | .local .tc .smem, ⟨0, _⟩ => ⟨S1x1, .f32⟩
  | .local .tc .smem, ⟨1, _⟩ => ⟨S2, .f32⟩
  | .local .scVector .vmem, ⟨0, _⟩ => ⟨S2x128, .i32⟩
  | .local .scVector .vmem, ⟨1, _⟩ => ⟨S2x128x384, .f32⟩
  | _, _ => ⟨S8x1024x384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v1_1_scv : Ref sig .scVector := ⟨.hbm, 9, rfl⟩
abbrev main_v3_scv : Ref sig .scVector := ⟨.hbm, 19, rfl⟩
abbrev main_v4_scv : Ref sig .scVector := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_stg6_0 : Ref sig .tc := ⟨.smem, 0, rfl⟩
abbrev cc0_scratch2 : Ref sig .tc := ⟨.smem, 1, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c15_i32 : BitVec 32 := 15#32
  let v55 : BitVec 1 := Scalar.cmpi .eq arg0 c15_i32
  let v56 : BitVec 32 := Scalar.extui v55
  let c0_i32_23 : BitVec 32 := 0#32
  let v57 : BitVec 1 := Scalar.cmpi .ne v56 c0_i32_23
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_85_r0 : BitVec 32 := 0#32
  let c0_i32_86_r0 : BitVec 32 := 0#32
  ![v1.toNat, 0, 0]
def k1_off2 (i : grid1.Coords) (c0_i32_81 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let v63 : BitVec 32 := Scalar.addi v2 c0_i32_81
  let c0_i32_87_r1 : BitVec 32 := 0#32
  ![v63.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x1024x384 : Shape := ⟨3, ![8, 1024, 384]⟩
abbrev S8x1024 : Shape := ⟨2, ![8, 1024]⟩
abbrev S384x64 : Shape := ⟨2, ![384, 64]⟩
abbrev S64 : Shape := ⟨1, ![64]⟩
abbrev S64x384 : Shape := ⟨2, ![64, 384]⟩
abbrev S384 : Shape := ⟨1, ![384]⟩
abbrev S1024x64 : Shape := ⟨2, ![1024, 64]⟩
abbrev S_ : Shape := ⟨0, ![]⟩
abbrev S8x1024x1 : Shape := ⟨3, ![8, 1024, 1]⟩
abbrev S8x1024x64 : Shape := ⟨3, ![8, 1024, 64]⟩
abbrev S1x1x64 : Shape := ⟨3, ![1, 1, 64]⟩
abbrev S1024 : Shape := ⟨1, ![1024]⟩
abbrev S1024x1 : Shape := ⟨2, ![1024, 1]⟩
abbrev S8x1024x1024 : Shape := ⟨3, ![8, 1024, 1024]⟩
abbrev S1 : Shape := ⟨1, ![1]⟩
abbrev S1x1x1 : Shape := ⟨3, ![1, 1, 1]⟩
abbrev S1x1x384 : Shape := ⟨3, ![1, 1, 384]⟩

abbrev nBuf : Space → Nat
  | .hbm => 103
  | .vmem => 0
  | .smem => 0
  | _ => 0

abbrev bufTy : (tb : Table) → Fin (tcTables nBuf tb) → BufTy
  | .hbm, ⟨0, _⟩ => ⟨S8x1024x384, .f32⟩
  | .hbm, ⟨1, _⟩ => ⟨S8x1024, .f32⟩
  | .hbm, ⟨2, _⟩ => ⟨S384x64, .f32⟩
  | .hbm, ⟨3, _⟩ => ⟨S64, .f32⟩
  | .hbm, ⟨4, _⟩ => ⟨S64x384, .f32⟩
  | .hbm, ⟨5, _⟩ => ⟨S384, .f32⟩
  | .hbm, ⟨6, _⟩ => ⟨S1024x64, .f32⟩
  | .hbm, ⟨7, _⟩ => ⟨S8x1024x384, .f32⟩
  | .hbm, ⟨8, _⟩ => ⟨S_, .f32⟩
  | .hbm, ⟨9, _⟩ => ⟨S8x1024, .f32⟩
  | .hbm, ⟨10, _⟩ => ⟨S8x1024x1, .f32⟩
  | .hbm, ⟨11, _⟩ => ⟨S_, .f32⟩
  | .hbm, ⟨12, _⟩ => ⟨S8x1024x1, .f32⟩
  | .hbm, ⟨13, _⟩ => ⟨S8x1024x1, .f32⟩
  | .hbm, ⟨14, _⟩ => ⟨S8x1024x1, .f32⟩
  | .hbm, ⟨15, _⟩ => ⟨S8x1024x384, .f32⟩
  | .hbm, ⟨16, _⟩ => ⟨S8x1024x384, .f32⟩
  | .hbm, ⟨17, _⟩ => ⟨S8x1024x1, .f32⟩
  | .hbm, ⟨18, _⟩ => ⟨S8x1024x384, .f32⟩
  | .hbm, ⟨19, _⟩ => ⟨S8x1024x384, .f32⟩
  | .hbm, ⟨20, _⟩ => ⟨S8x1024x64, .f32⟩
  | .hbm, ⟨21, _⟩ => ⟨S1x1x64, .f32⟩
  | .hbm, ⟨22, _⟩ => ⟨S8x1024x64, .f32⟩
  | .hbm, ⟨23, _⟩ => ⟨S8x1024x64, .f32⟩
  | .hbm, ⟨24, _⟩ => ⟨S8x1024x64, .f32⟩
  | .hbm, ⟨25, _⟩ => ⟨S_, .f32⟩
  | .hbm, ⟨26, _⟩ => ⟨S8x1024, .f32⟩
  | .hbm, ⟨27, _⟩ => ⟨S8x1024x1, .f32⟩
  | .hbm, ⟨28, _⟩ => ⟨S_, .f32⟩
  | .hbm, ⟨29, _⟩ => ⟨S8x1024x1, .f32⟩
  | .hbm, ⟨30, _⟩ => ⟨S8x1024x1, .f32⟩
  | .hbm, ⟨31, _⟩ => ⟨S8x1024x1, .f32⟩
  | .hbm, ⟨32, _⟩ => ⟨S8x1024x64, .f32⟩
  | .hbm, ⟨33, _⟩ => ⟨S8x1024x64, .f32⟩
  | .hbm, ⟨34, _⟩ => ⟨S1024x64, .f32⟩
  | .hbm, ⟨35, _⟩ => ⟨S_, .f32⟩
  | .hbm, ⟨36, _⟩ => ⟨S1024, .f32⟩
  | .hbm, ⟨37, _⟩ => ⟨S1024x1, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S1024x1, .f32⟩
  | .hbm, ⟨42, _⟩ => ⟨S1024x64, .f32⟩
  | .hbm, ⟨43, _⟩ => ⟨S1024x64, .f32⟩
  | .hbm, ⟨44, _⟩ => ⟨S8x1024x1024, .f32⟩
  | .hbm, ⟨45, _⟩ => ⟨S8x1024x1024, .i32⟩
  | .hbm, ⟨46, _⟩ => ⟨S_, .f32⟩
  | .hbm, ⟨47, _⟩ => ⟨S_, .i32⟩
  | .hbm, ⟨48, _⟩ => ⟨S8x1024, .f32⟩
  | .hbm, ⟨49, _⟩ => ⟨S8x1024, .i32⟩
  | .hbm, ⟨50, _⟩ => ⟨S_, .i32⟩
  | .hbm, ⟨51, _⟩ => ⟨S8x1024, .i32⟩
  | .hbm, ⟨52, _⟩ => ⟨S8x1024, .i1⟩
  | .hbm, ⟨53, _⟩ => ⟨S_, .i32⟩
  | .hbm, ⟨54, _⟩ => ⟨S8x1024, .i32⟩
  | .hbm, ⟨55, _⟩ => ⟨S8x1024, .i32⟩
  | .hbm, ⟨56, _⟩ => ⟨S8x1024, .i32⟩
  | .hbm, ⟨57, _⟩ => ⟨S8x1024x1, .i32⟩
  | .hbm, ⟨58, _⟩ => ⟨S1, .i32⟩
  | .hbm, ⟨59, _⟩ => ⟨S_, .i32⟩
  | .hbm, ⟨60, _⟩ => ⟨S8x1024x1, .i32⟩
  | .hbm, ⟨61, _⟩ => ⟨S8x1024x1, .i1⟩
  | .hbm, ⟨62, _⟩ => ⟨S1x1x1, .i32⟩
  | .hbm, ⟨63, _⟩ => ⟨S8x1024x1, .i32⟩
  | .hbm, ⟨64, _⟩ => ⟨S8x1024x1, .i1⟩
  | .hbm, ⟨65, _⟩ => ⟨S8x1024x1, .i1⟩
  | .hbm, ⟨66, _⟩ => ⟨S_, .i1⟩
  | .hbm, ⟨67, _⟩ => ⟨S8x1024, .i1⟩
  | .hbm, ⟨68, _⟩ => ⟨S8x1024x64, .f32⟩
  | .hbm, ⟨69, _⟩ => ⟨S8x1024x64, .i1⟩
  | .hbm, ⟨70, _⟩ => ⟨S_, .f32⟩
  | .hbm, ⟨71, _⟩ => ⟨S8x1024x64, .f32⟩
  | .hbm, ⟨72, _⟩ => ⟨S8x1024x64, .f32⟩
  | .hbm, ⟨73, _⟩ => ⟨S8x1024x64, .f32⟩
  | .hbm, ⟨74, _⟩ => ⟨S8x1024x64, .f32⟩
  | .hbm, ⟨75, _⟩ => ⟨S8x1024x384, .f32⟩
  | .hbm, ⟨76, _⟩ => ⟨S1x1x384, .f32⟩
  | .hbm, ⟨77, _⟩ => ⟨S8x1024x384, .f32⟩
  | .hbm, ⟨78, _⟩ => ⟨S8x1024x384, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S8x1024x1, .f32⟩
  | .hbm, ⟨86, _⟩ => ⟨S8x1024x64, .f32⟩
  | .hbm, ⟨87, _⟩ => ⟨S8x1024x64, .f32⟩
  | .hbm, ⟨88, _⟩ => ⟨S8x1024x64, .f32⟩
  | .hbm, ⟨89, _⟩ => ⟨S8x1024x64, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S8x1024x64, .f32⟩
  | .hbm, ⟨94, _⟩ => ⟨S8x1024x64, .f32⟩
  | .hbm, ⟨95, _⟩ => ⟨S8x1024x64, .f32⟩
  | .hbm, ⟨96, _⟩ => ⟨S8x1024x64, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S8x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_cst : Ref sig .tc := ⟨.hbm, 46, rfl⟩
abbrev main_call0_c : Ref sig .tc := ⟨.hbm, 47, rfl⟩
abbrev main_call0_v1_0 : Ref sig .tc := ⟨.hbm, 48, rfl⟩
abbrev main_v32 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_5 : Ref sig .tc := ⟨.hbm, 79, rfl⟩
abbrev main_v40 : Ref sig .tc := ⟨.hbm, 80, rfl⟩
abbrev main_cst_6 : Ref sig .tc := ⟨.hbm, 81, rfl⟩
abbrev main_v41 : Ref sig .tc := ⟨.hbm, 82, rfl⟩
abbrev main_cst_7 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_cst_8 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_9 : Ref sig .tc := ⟨.hbm, 97, rfl⟩
abbrev main_v54 : Ref sig .tc := ⟨.hbm, 98, rfl⟩
abbrev main_v55 : Ref sig .tc := ⟨.hbm, 99, rfl⟩
abbrev main_cst_10 : Ref sig .tc := ⟨.hbm, 100, rfl⟩
abbrev main_v56 : Ref sig .tc := ⟨.hbm, 101, rfl⟩
abbrev main_v57 : Ref sig .tc := ⟨.hbm, 102, rfl⟩

abbrev nD : Nat := 1
abbrev τ : Topo := Topo.v7x

variable {F : FTy → Type} [FloatOps F]
-- ==== Proof.RefRun.lean ====
/-
  The run of the reference: a line of host operations, cut into stretches, and the contents of its buffers after each of them.
-/
module

public import proofs.«01_k».proof.Defs
public import proofs.«01_k».proof.Proof.Gen.ReferenceIdeal
public import Idealize.ShloMosaic.Lib.StableHlo.RunHlo
public import Idealize.ShloMosaic.Lib.Pipeline.Frame
public import Idealize.ShloMosaic.Lib.Quiescent

@[expose] public section

set_option maxRecDepth 65536

noncomputable section

namespace Cert.Proof.RI

open Cert.ReferenceIdeal Cert.ReferenceIdeal.Gen

open Idealize.ShloMosaic Idealize.ShloMosaic.TcCoe
open Idealize.SL.Sem

variable {F : FTy → Type} [FloatOps F]

/-- The normalized and projected rows. -/
def opsH : List (HloOp τ sig (Elt F)) :=
  [StableHlo.binary main_arg0 main_arg0 main_v0 (mulf : (⟨S8x1024x384, .f32⟩ : BufTy).Contents (Elt F) → (⟨S8x1024x384, .f32⟩ : BufTy).Contents (Elt F) → (⟨S8x1024x384, .f32⟩ : BufTy).Contents (Elt F)),
   StableHlo.nullary main_cst (constant S_ .f32 0x00000000#32),
   StableHlo.binary main_v0 main_cst main_v1 ((fun x v => Host.reduceAdd x v reducesTo_S8x1024x384_S8x1024_d2 h_S_) : (⟨S8x1024x384, .f32⟩ : BufTy).Contents (Elt F) → (⟨S_, .f32⟩ : BufTy).Contents (Elt F) → (⟨S8x1024, .f32⟩ : BufTy).Contents (Elt F)),
   StableHlo.unary main_v1 main_v2 (broadcastInDim S8x1024x1 ![0, 1] bcast_S8x1024_S8x1024x1_0_1 : (⟨S8x1024, .f32⟩ : BufTy).Contents (Elt F) → (⟨S8x1024x1, .f32⟩ : BufTy).Contents (Elt F)),
   StableHlo.nullary main_cst_0 (constant S_ .f32 0x358637BD#32),
   StableHlo.unary main_cst_0 main_v3 (broadcastInDim S8x1024x1 ![] bcast_S_S8x1024x1 : (⟨S_, .f32⟩ : BufTy).Contents (Elt F) → (⟨S8x1024x1, .f32⟩ : BufTy).Contents (Elt F)),
   StableHlo.binary main_v2 main_v3 main_v4 (maximumf : (⟨S8x1024x1, .f32⟩ : BufTy).Contents (Elt F) → (⟨S8x1024x1, .f32⟩ : BufTy).Contents (Elt F) → (⟨S8x1024x1, .f32⟩ : BufTy).Contents (Elt F)),
   StableHlo.unary main_v4 main_v5 (Host.rsqrt : (⟨S8x1024x1, .f32⟩ : BufTy).Contents (Elt F) → (⟨S8x1024x1, .f32⟩ : BufTy).Contents (Elt F)),
   StableHlo.unary main_v5 main_v6 (broadcastInDim S8x1024x384 ![0, 1, 2] bcast_S8x1024x1_S8x1024x384_0_1_2 : (⟨S8x1024x1, .f32⟩ : BufTy).Contents (Elt F) → (⟨S8x1024x384, .f32⟩ : BufTy).Contents (Elt F)),
   StableHlo.binary main_arg0 main_v6 main_v7 (mulf : (⟨S8x1024x384, .f32⟩ : BufTy).Contents (Elt F) → (⟨S8x1024x384, .f32⟩ : BufTy).Contents (Elt F) → (⟨S8x1024x384, .f32⟩ : BufTy).Contents (Elt F)),
   StableHlo.unary main_arg1 main_v8 (broadcastInDim S8x1024x1 ![0, 1] bcast_S8x1024_S8x1024x1_0_1 : (⟨S8x1024, .f32⟩ : BufTy).Contents (Elt F) → (⟨S8x1024x1, .f32⟩ : BufTy).Contents (Elt F)),
   StableHlo.unary main_v8 main_v9 (broadcastInDim S8x1024x384 ![0, 1, 2] bcast_S8x1024x1_S8x1024x384_0_1_2 : (⟨S8x1024x1, .f32⟩ : BufTy).Contents (Elt F) → (⟨S8x1024x384, .f32⟩ : BufTy).Contents (Elt F)),
   StableHlo.binary main_v7 main_v9 main_v10 (mulf : (⟨S8x1024x384, .f32⟩ : BufTy).Contents (Elt F) → (⟨S8x1024x384, .f32⟩ : BufTy).Contents (Elt F) → (⟨S8x1024x384, .f32⟩ : BufTy).Contents (Elt F)),
   StableHlo.binary main_v10 main_arg2 main_v11 ((fun l r => Host.dotGeneral dot_S8x1024x384_S384x64_S8x1024x64_2_0_01_1_n_n none l r) : (⟨S8x1024x384, .f32⟩ : BufTy).Contents (Elt F) → (⟨S384x64, .f32⟩ : BufTy).Contents (Elt F) → (⟨S8x1024x64, .f32⟩ : BufTy).Contents (Elt F)),
   StableHlo.unary main_arg3 main_v12 (broadcastInDim S1x1x64 ![2] bcast_S64_S1x1x64_2 : (⟨S64, .f32⟩ : BufTy).Contents (Elt F) → (⟨S1x1x64, .f32⟩ : BufTy).Contents (Elt F)),
   StableHlo.unary main_v12 main_v13 (broadcastInDim S8x1024x64 ![0, 1, 2] bcast_S1x1x64_S8x1024x64_0_1_2 : (⟨S1x1x64, .f32⟩ : BufTy).Contents (Elt F) → (⟨S8x1024x64, .f32⟩ : BufTy).Contents (Elt F)),
   StableHlo.binary main_v11 main_v13 main_v14 (addf : (⟨S8x1024x64, .f32⟩ : BufTy).Contents (Elt F) → (⟨S8x1024x64, .f32⟩ : BufTy).Contents (Elt F) → (⟨S8x1024x64, .f32⟩ : BufTy).Contents (Elt F)),
   StableHlo.binary main_v14 main_v14 main_v15 (mulf : (⟨S8x1024x64, .f32⟩ : BufTy).Contents (Elt F) → (⟨S8x1024x64, .f32⟩ : BufTy).Contents (Elt F) → (⟨S8x1024x64, .f32⟩ : BufTy).Contents (Elt F)),
   StableHlo.nullary main_cst_1 (constant S_ .f32 0x00000000#32),
   StableHlo.binary main_v15 main_cst_1 main_v16 ((fun x v => Host.reduceAdd x v reducesTo_S8x1024x64_S8x1024_d2 h_S_) : (⟨S8x1024x64, .f32⟩ : BufTy).Contents (Elt F) → (⟨S_, .f32⟩ : BufTy).Contents (Elt F) → (⟨S8x1024, .f32⟩ : BufTy).Contents (Elt F)),
   StableHlo.unary main_v16 main_v17 (broadcastInDim S8x1024x1 ![0, 1] bcast_S8x1024_S8x1024x1_0_1 : (⟨S8x1024, .f32⟩ : BufTy).Contents (Elt F) → (⟨S8x1024x1, .f32⟩ : BufTy).Contents (Elt F)),
   StableHlo.nullary main_cst_2 (constant S_ .f32 0x358637BD#32),
   StableHlo.unary main_cst_2 main_v18 (broadcastInDim S8x1024x1 ![] bcast_S_S8x1024x1 : (⟨S_, .f32⟩ : BufTy).Contents (Elt F) → (⟨S8x1024x1, .f32⟩ : BufTy).Contents (Elt F)),
   StableHlo.binary main_v17 main_v18 main_v19 (maximumf : (⟨S8x1024x1, .f32⟩ : BufTy).Contents (Elt F) → (⟨S8x1024x1, .f32⟩ : BufTy).Contents (Elt F) → (⟨S8x1024x1, .f32⟩ : BufTy).Contents (Elt F)),
   StableHlo.unary main_v19 main_v20 (Host.rsqrt : (⟨S8x1024x1, .f32⟩ : BufTy).Contents (Elt F) → (⟨S8x1024x1, .f32⟩ : BufTy).Contents (Elt F)),
   StableHlo.unary main_v20 main_v21 (broadcastInDim S8x1024x64 ![0, 1, 2] bcast_S8x1024x1_S8x1024x64_0_1_2 : (⟨S8x1024x1, .f32⟩ : BufTy).Contents (Elt F) → (⟨S8x1024x64, .f32⟩ : BufTy).Contents (Elt F)),
   StableHlo.binary main_v14 main_v21 main_v22 (mulf : (⟨S8x1024x64, .f32⟩ : BufTy).Contents (Elt F) → (⟨S8x1024x64, .f32⟩ : BufTy).Contents (Elt F) → (⟨S8x1024x64, .f32⟩ : BufTy).Contents (Elt F))]
/-- The normalized codebook and the similarities. -/
def opsS : List (HloOp τ sig (Elt F)) :=
  [StableHlo.binary main_arg6 main_arg6 main_v23 (mulf : (⟨S1024x64, .f32⟩ : BufTy).Contents (Elt F) → (⟨S1024x64, .f32⟩ : BufTy).Contents (Elt F) → (⟨S1024x64, .f32⟩ : BufTy).Contents (Elt F)),
   StableHlo.nullary main_cst_3 (constant S_ .f32 0x00000000#32),
   StableHlo.binary main_v23 main_cst_3 main_v24 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
   StableHlo.unary main_v24 main_v25 (broadcastInDim S1024x1 ![0] bcast_S1024_S1024x1_0 : (⟨S1024, .f32⟩ : BufTy).Contents (Elt F) → (⟨S1024x1, .f32⟩ : BufTy).Contents (Elt F)),
   StableHlo.nullary main_cst_4 (constant S_ .f32 0x358637BD#32),
   StableHlo.unary main_cst_4 main_v26 (broadcastInDim S1024x1 ![] bcast_S_S1024x1 : (⟨S_, .f32⟩ : BufTy).Contents (Elt F) → (⟨S1024x1, .f32⟩ : BufTy).Contents (Elt F)),
   StableHlo.binary main_v25 main_v26 main_v27 (maximumf : (⟨S1024x1, .f32⟩ : BufTy).Contents (Elt F) → (⟨S1024x1, .f32⟩ : BufTy).Contents (Elt F) → (⟨S1024x1, .f32⟩ : BufTy).Contents (Elt F)),
   StableHlo.unary main_v27 main_v28 (Host.rsqrt : (⟨S1024x1, .f32⟩ : BufTy).Contents (Elt F) → (⟨S1024x1, .f32⟩ : BufTy).Contents (Elt F)),
   StableHlo.unary main_v28 main_v29 (broadcastInDim S1024x64 ![0, 1] bcast_S1024x1_S1024x64_0_1 : (⟨S1024x1, .f32⟩ : BufTy).Contents (Elt F) → (⟨S1024x64, .f32⟩ : BufTy).Contents (Elt F)),
   StableHlo.binary main_arg6 main_v29 main_v30 (mulf : (⟨S1024x64, .f32⟩ : BufTy).Contents (Elt F) → (⟨S1024x64, .f32⟩ : BufTy).Contents (Elt F) → (⟨S1024x64, .f32⟩ : BufTy).Contents (Elt F)),
   StableHlo.binary main_v22 main_v30 main_v31 ((fun l r => Host.dotGeneral dot_S8x1024x64_S1024x64_S8x1024x1024_2_1_01_0_n_n none l r) : (⟨S8x1024x64, .f32⟩ : BufTy).Contents (Elt F) → (⟨S1024x64, .f32⟩ : BufTy).Contents (Elt F) → (⟨S8x1024x1024, .f32⟩ : BufTy).Contents (Elt F))]
/-- The place of the greatest similarity. -/
def opsM : List (HloOp τ sig (Elt F)) :=
  [StableHlo.TRef.nullary main_call0.v0 (iotaInDim S8x1024x1024 32 2),
   StableHlo.TRef.nullary main_call0.cst (constant S_ .f32 0xFF800000#32),
   StableHlo.TRef.nullary main_call0.c (constantI S_ 32 0#32),
   StableHlo.TRef.quaternary (.of main_v31) main_call0.v0 main_call0.cst main_call0.c main_call0.v1_0 (fun x y u v j => (Host.argReduce reducer_argmax_f32_i32 x y u v reducesTo_S8x1024x1024_S8x1024_d2 h_S_ j).1),
   StableHlo.TRef.quaternary (.of main_v31) main_call0.v0 main_call0.cst main_call0.c main_call0.v1_1 (fun x y u v j => (Host.argReduce reducer_argmax_f32_i32 x y u v reducesTo_S8x1024x1024_S8x1024_d2 h_S_ j).2)]
/-- The chosen rows of the codebook. -/
def opsQ : List (HloOp τ sig (Elt F)) :=
  [StableHlo.TRef.nullary main_call1.c (constantI S_ 32 0#32),
   StableHlo.TRef.unary main_call1.c main_call1.v0 (broadcastInDim S8x1024 ![] bcast_S_S8x1024),
   StableHlo.TRef.binary (.of main_v32) main_call1.v0 main_call1.v1 (cmpi .slt),
   StableHlo.TRef.nullary main_call1.c_0 (constantI S_ 32 1024#32),
   StableHlo.TRef.unary main_call1.c_0 main_call1.v2 (broadcastInDim S8x1024 ![] bcast_S_S8x1024),
   StableHlo.TRef.binary (.of main_v32) main_call1.v2 main_call1.v3 addi,
   StableHlo.TRef.ternary main_call1.v1 main_call1.v3 (.of main_v32) main_call1.call0.v0 select,
   StableHlo.TRef.unary main_call1.call0.v0 main_call1.v5 (broadcastInDim S8x1024x1 ![0, 1] bcast_S8x1024_S8x1024x1_0_1),
   StableHlo.TRef.nullary main_call1.c_1 (constantI S1 32 1023#32),
   StableHlo.TRef.nullary main_call1.c_2 (constantI S_ 32 0#32),
   StableHlo.TRef.unary main_call1.c_2 main_call1.v6 (broadcastInDim S8x1024x1 ![] bcast_S_S8x1024x1),
   StableHlo.TRef.binary main_call1.v5 main_call1.v6 main_call1.v7 (cmpi .sge),
   StableHlo.TRef.unary main_call1.c_1 main_call1.v8 (broadcastInDim S1x1x1 ![2] bcast_S1_S1x1x1_2),
   StableHlo.TRef.unary main_call1.v8 main_call1.v9 (broadcastInDim S8x1024x1 ![0, 1, 2] bcast_S1x1x1_S8x1024x1_0_1_2),
   StableHlo.TRef.binary main_call1.v5 main_call1.v9 main_call1.v10 (cmpi .sle),
   StableHlo.TRef.binary main_call1.v7 main_call1.v10 main_call1.v11 andi,
   StableHlo.TRef.nullary main_call1.c_3 (constantI S_ 1 1#1),
   StableHlo.TRef.binary main_call1.v11 main_call1.c_3 main_call1.v12 (fun x v => Host.reduce IntOp.andi x v reducesTo_S8x1024x1_S8x1024_d2 h_S_),
   StableHlo.TRef.binary (.of main_v30) main_call1.v5 main_call1.v13 (fun x i => Host.gather gather_S1024x64_S8x1024x1_S8x1024x64_2_0_n_n_0_2_164 x i),
   StableHlo.TRef.unary main_call1.v12 main_call1.v14 (broadcastInDim S8x1024x64 ![0, 1] bcast_S8x1024_S8x1024x64_0_1),
   StableHlo.TRef.nullary main_call1.cst (constant S_ .f32 0x7FC00000#32),
   StableHlo.TRef.unary main_call1.cst main_call1.v15 (broadcastInDim S8x1024x64 ![] bcast_S_S8x1024x64),
   StableHlo.TRef.ternary main_call1.v14 main_call1.v13 main_call1.v15 main_call1.v16 select]
/-- The projected output. -/
def opsO : List (HloOp τ sig (Elt F)) :=
  [StableHlo.binary main_v33 main_v22 main_v34 (subf : (⟨S8x1024x64, .f32⟩ : BufTy).Contents (Elt F) → (⟨S8x1024x64, .f32⟩ : BufTy).Contents (Elt F) → (⟨S8x1024x64, .f32⟩ : BufTy).Contents (Elt F)),
   StableHlo.binary main_v22 main_v34 main_v35 (addf : (⟨S8x1024x64, .f32⟩ : BufTy).Contents (Elt F) → (⟨S8x1024x64, .f32⟩ : BufTy).Contents (Elt F) → (⟨S8x1024x64, .f32⟩ : BufTy).Contents (Elt F)),
   StableHlo.binary main_v35 main_arg4 main_v36 ((fun l r => Host.dotGeneral dot_S8x1024x64_S64x384_S8x1024x384_2_0_01_1_n_n none l r) : (⟨S8x1024x64, .f32⟩ : BufTy).Contents (Elt F) → (⟨S64x384, .f32⟩ : BufTy).Contents (Elt F) → (⟨S8x1024x384, .f32⟩ : BufTy).Contents (Elt F)),
   StableHlo.unary main_arg5 main_v37 (broadcastInDim S1x1x384 ![2] bcast_S384_S1x1x384_2 : (⟨S384, .f32⟩ : BufTy).Contents (Elt F) → (⟨S1x1x384, .f32⟩ : BufTy).Contents (Elt F)),
   StableHlo.unary main_v37 main_v38 (broadcastInDim S8x1024x384 ![0, 1, 2] bcast_S1x1x384_S8x1024x384_0_1_2 : (⟨S1x1x384, .f32⟩ : BufTy).Contents (Elt F) → (⟨S8x1024x384, .f32⟩ : BufTy).Contents (Elt F)),
   StableHlo.binary main_v36 main_v38 main_v39 (addf : (⟨S8x1024x384, .f32⟩ : BufTy).Contents (Elt F) → (⟨S8x1024x384, .f32⟩ : BufTy).Contents (Elt F) → (⟨S8x1024x384, .f32⟩ : BufTy).Contents (Elt F))]
/-- The loss. -/
def opsL : List (HloOp τ sig (Elt F)) :=
  [StableHlo.nullary main_cst_5 (constant S_ .f32 0x00000000#32),
   StableHlo.binary main_arg1 main_cst_5 main_v40 ((fun x v => Host.reduceAdd x v reducesTo_S8x1024_S_d0_1 h_S_) : (⟨S8x1024, .f32⟩ : BufTy).Contents (Elt F) → (⟨S_, .f32⟩ : BufTy).Contents (Elt F) → (⟨S_, .f32⟩ : BufTy).Contents (Elt F)),
   StableHlo.nullary main_cst_6 (constant S_ .f32 0x3F800000#32),
   StableHlo.binary main_v40 main_cst_6 main_v41 (maximumf : (⟨S_, .f32⟩ : BufTy).Contents (Elt F) → (⟨S_, .f32⟩ : BufTy).Contents (Elt F) → (⟨S_, .f32⟩ : BufTy).Contents (Elt F)),
   StableHlo.nullary main_cst_7 (constant S_ .f32 0x42800000#32),
   StableHlo.binary main_v41 main_cst_7 main_v42 (mulf : (⟨S_, .f32⟩ : BufTy).Contents (Elt F) → (⟨S_, .f32⟩ : BufTy).Contents (Elt F) → (⟨S_, .f32⟩ : BufTy).Contents (Elt F)),
   StableHlo.unary main_arg1 main_v43 (broadcastInDim S8x1024x1 ![0, 1] bcast_S8x1024_S8x1024x1_0_1 : (⟨S8x1024, .f32⟩ : BufTy).Contents (Elt F) → (⟨S8x1024x1, .f32⟩ : BufTy).Contents (Elt F)),
   StableHlo.binary main_v22 main_v33 main_v44 (subf : (⟨S8x1024x64, .f32⟩ : BufTy).Contents (Elt F) → (⟨S8x1024x64, .f32⟩ : BufTy).Contents (Elt F) → (⟨S8x1024x64, .f32⟩ : BufTy).Contents (Elt F)),
   StableHlo.binary main_v44 main_v44 main_v45 (mulf : (⟨S8x1024x64, .f32⟩ : BufTy).Contents (Elt F) → (⟨S8x1024x64, .f32⟩ : BufTy).Contents (Elt F) → (⟨S8x1024x64, .f32⟩ : BufTy).Contents (Elt F)),
   StableHlo.unary main_v43 main_v46 (broadcastInDim S8x1024x64 ![0, 1, 2] bcast_S8x1024x1_S8x1024x64_0_1_2 : (⟨S8x1024x1, .f32⟩ : BufTy).Contents (Elt F) → (⟨S8x1024x64, .f32⟩ : BufTy).Contents (Elt F)),
   StableHlo.binary main_v45 main_v46 main_v47 (mulf : (⟨S8x1024x64, .f32⟩ : BufTy).Contents (Elt F) → (⟨S8x1024x64, .f32⟩ : BufTy).Contents (Elt F) → (⟨S8x1024x64, .f32⟩ : BufTy).Contents (Elt F)),
   StableHlo.nullary main_cst_8 (constant S_ .f32 0x00000000#32),
   StableHlo.binary main_v47 main_cst_8 main_v48 ((fun x v => Host.reduceAdd x v reducesTo_S8x1024x64_S_d0_1_2 h_S_) : (⟨S8x1024x64, .f32⟩ : BufTy).Contents (Elt F) → (⟨S_, .f32⟩ : BufTy).Contents (Elt F) → (⟨S_, .f32⟩ : BufTy).Contents (Elt F)),
   StableHlo.binary main_v48 main_v42 main_v49 (Host.divf : (⟨S_, .f32⟩ : BufTy).Contents (Elt F) → (⟨S_, .f32⟩ : BufTy).Contents (Elt F) → (⟨S_, .f32⟩ : BufTy).Contents (Elt F)),
   StableHlo.binary main_v22 main_v33 main_v50 (subf : (⟨S8x1024x64, .f32⟩ : BufTy).Contents (Elt F) → (⟨S8x1024x64, .f32⟩ : BufTy).Contents (Elt F) → (⟨S8x1024x64, .f32⟩ : BufTy).Contents (Elt F)),
   StableHlo.binary main_v50 main_v50 main_v51 (mulf : (⟨S8x1024x64, .f32⟩ : BufTy).Contents (Elt F) → (⟨S8x1024x64, .f32⟩ : BufTy).Contents (Elt F) → (⟨S8x1024x64, .f32⟩ : BufTy).Contents (Elt F)),
   StableHlo.unary main_v43 main_v52 (broadcastInDim S8x1024x64 ![0, 1, 2] bcast_S8x1024x1_S8x1024x64_0_1_2 : (⟨S8x1024x1, .f32⟩ : BufTy).Contents (Elt F) → (⟨S8x1024x64, .f32⟩ : BufTy).Contents (Elt F)),
   StableHlo.binary main_v51 main_v52 main_v53 (mulf : (⟨S8x1024x64, .f32⟩ : BufTy).Contents (Elt F) → (⟨S8x1024x64, .f32⟩ : BufTy).Contents (Elt F) → (⟨S8x1024x64, .f32⟩ : BufTy).Contents (Elt F)),
   StableHlo.nullary main_cst_9 (constant S_ .f32 0x00000000#32),
   StableHlo.binary main_v53 main_cst_9 main_v54 ((fun x v => Host.reduceAdd x v reducesTo_S8x1024x64_S_d0_1_2 h_S_) : (⟨S8x1024x64, .f32⟩ : BufTy).Contents (Elt F) → (⟨S_, .f32⟩ : BufTy).Contents (Elt F) → (⟨S_, .f32⟩ : BufTy).Contents (Elt F)),
   StableHlo.binary main_v54 main_v42 main_v55 (Host.divf : (⟨S_, .f32⟩ : BufTy).Contents (Elt F) → (⟨S_, .f32⟩ : BufTy).Contents (Elt F) → (⟨S_, .f32⟩ : BufTy).Contents (Elt F)),
   StableHlo.nullary main_cst_10 (constant S_ .f32 0x3E800000#32),
   StableHlo.binary main_cst_10 main_v49 main_v56 (mulf : (⟨S_, .f32⟩ : BufTy).Contents (Elt F) → (⟨S_, .f32⟩ : BufTy).Contents (Elt F) → (⟨S_, .f32⟩ : BufTy).Contents (Elt F)),
   StableHlo.binary main_v55 main_v56 main_v57 (addf : (⟨S_, .f32⟩ : BufTy).Contents (Elt F) → (⟨S_, .f32⟩ : BufTy).Contents (Elt F) → (⟨S_, .f32⟩ : BufTy).Contents (Elt F))]

/-- The whole line. -/
def ops : List (HloOp τ sig (Elt F)) := opsH ++ (opsS ++ (opsM ++ (opsQ ++ (opsO ++ opsL))))

set_option maxHeartbeats 4000000 in
theorem main_eq (d : Dev nD) : main (F := F) d = StableHlo.seq ops := by
  rfl

theorem forall_append {α : Type} (P : α → Prop) (l₁ l₂ : List α) (h₁ : l₁.Forall P) (h₂ : l₂.Forall P) : (l₁ ++ l₂).Forall P := by
  rw [List.forall_iff_forall_mem] at *
  intro x hx
  rcases List.mem_append.mp hx with h | h
  · exact h₁ x h
  · exact h₂ x h

theorem subH : (opsH (F := F)).Forall fun op => op.bufs ⊆ StableHlo.tcRefs τ sig := by simp [opsH]
theorem subS : (opsS (F := F)).Forall fun op => op.bufs ⊆ StableHlo.tcRefs τ sig := by simp [opsS]
theorem subM : (opsM (F := F)).Forall fun op => op.bufs ⊆ StableHlo.tcRefs τ sig := by simp [opsM, StableHlo.TRef.nullary, StableHlo.TRef.quaternary]
theorem subQ : (opsQ (F := F)).Forall fun op => op.bufs ⊆ StableHlo.tcRefs τ sig := by
  simp [opsQ, StableHlo.TRef.nullary, StableHlo.TRef.unary, StableHlo.TRef.binary, StableHlo.TRef.ternary]
theorem subO : (opsO (F := F)).Forall fun op => op.bufs ⊆ StableHlo.tcRefs τ sig := by simp [opsO]
theorem subL : (opsL (F := F)).Forall fun op => op.bufs ⊆ StableHlo.tcRefs τ sig := by simp [opsL]

/-- No operation allocates. -/
def Fresh (l : List (HloOp τ sig (Elt F))) : Prop := l.Forall fun op => op.fresh = ∅
theorem frH : Fresh (opsH (F := F)) := StableHlo.forall_fresh_of_map rfl
theorem frS : Fresh (opsS (F := F)) := StableHlo.forall_fresh_of_map rfl
theorem frM : Fresh (opsM (F := F)) := StableHlo.forall_fresh_of_map rfl
theorem frQ : Fresh (opsQ (F := F)) := StableHlo.forall_fresh_of_map rfl
theorem frO : Fresh (opsO (F := F)) := StableHlo.forall_fresh_of_map rfl
theorem frL : Fresh (opsL (F := F)) := StableHlo.forall_fresh_of_map rfl

variable (m : (ℓ : Loc nD τ sig) → Buf (Elt F) ℓ) (ρ : Dev nD → PrngReg)

/-- The contents after each stretch. -/
def VH (d : Dev nD) : Valuation τ sig (Elt F) := StableHlo.after opsH (StableHlo.launchContents m d)
def VS (d : Dev nD) : Valuation τ sig (Elt F) := StableHlo.after opsS (VH m d)
def VM (d : Dev nD) : Valuation τ sig (Elt F) := StableHlo.after opsM (VS m d)
def VQ (d : Dev nD) : Valuation τ sig (Elt F) := StableHlo.after opsQ (VM m d)
def VO (d : Dev nD) : Valuation τ sig (Elt F) := StableHlo.after opsO (VQ m d)
def VL (d : Dev nD) : Valuation τ sig (Elt F) := StableHlo.after opsL (VO m d)

theorem after_ops (d : Dev nD) : StableHlo.after ops (StableHlo.launchContents m d) = VL m d := by
  unfold ops VL VO VQ VM VS VH; simp only [StableHlo.after_append]

theorem run : θ_run (Cert.ReferenceIdeal.defs (F := F)) (onTc (τ := τ) (main (F := F))) ⟨m, fun _ => 0, ρ⟩
    (fun r => ∀ (d : Dev nD) (b : Ref sig .tc), r.2.mem ((d.tc : Thread nD τ).loc b) = VL m d (Proc.devRef .tc b)) :=
  (θ_run Cert.ReferenceIdeal.defs _ _).mono (fun r h d b => by rw [h d b, after_ops])
    (StableHlo.run_hlo _ _ main_eq (by decide) (by decide)
      (forall_append _ _ _ subH (forall_append _ _ _ subS (forall_append _ _ _ subM (forall_append _ _ _ subQ (forall_append _ _ _ subO subL)))))
      (List.forall_iff_forall_mem.mp (forall_append _ _ _ frH (forall_append _ _ _ frS (forall_append _ _ _ frM (forall_append _ _ _ frQ (forall_append _ _ _ frO frL)))))) m ρ)

theorem VL_arg0 (d : Dev nD) : VL m d (Proc.devRef .tc main_arg0) = m ((d.tc : Thread nD τ).loc main_arg0) := by
  unfold VL VO VQ VM VS VH opsL opsO opsQ opsM opsS opsH; after_results_simp
theorem VL_arg1 (d : Dev nD) : VL m d (Proc.devRef .tc main_arg1) = m ((d.tc : Thread nD τ).loc main_arg1) := by
  unfold VL VO VQ VM VS VH opsL opsO opsQ opsM opsS opsH; after_results_simp
theorem VL_arg2 (d : Dev nD) : VL m d (Proc.devRef .tc main_arg2) = m ((d.tc : Thread nD τ).loc main_arg2) := by
  unfold VL VO VQ VM VS VH opsL opsO opsQ opsM opsS opsH; after_results_simp
theorem VL_arg3 (d : Dev nD) : VL m d (Proc.devRef .tc main_arg3) = m ((d.tc : Thread nD τ).loc main_arg3) := by
  unfold VL VO VQ VM VS VH opsL opsO opsQ opsM opsS opsH; after_results_simp
theorem VL_arg4 (d : Dev nD) : VL m d (Proc.devRef .tc main_arg4) = m ((d.tc : Thread nD τ).loc main_arg4) := by
  unfold VL VO VQ VM VS VH opsL opsO opsQ opsM opsS opsH; after_results_simp
theorem VL_arg5 (d : Dev nD) : VL m d (Proc.devRef .tc main_arg5) = m ((d.tc : Thread nD τ).loc main_arg5) := by
  unfold VL VO VQ VM VS VH opsL opsO opsQ opsM opsS opsH; after_results_simp
theorem VL_arg6 (d : Dev nD) : VL m d (Proc.devRef .tc main_arg6) = m ((d.tc : Thread nD τ).loc main_arg6) := by
  unfold VL VO VQ VM VS VH opsL opsO opsQ opsM opsS opsH; after_results_simp

/-- What a run ends with: the arguments as they were, every counter at zero, the results. -/
def Ends (r : PUnit × MemSt nD τ sig (Elt F)) : Prop :=
  ((∀ d : Dev nD, r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6))
    ∧ (r.2.sem = fun _ => 0))
  ∧ ∀ d : Dev nD, r.2.mem ((d.tc : Thread nD τ).loc main_v39) = VL m d (Proc.devRef .tc main_v39)
    ∧ r.2.mem ((d.tc : Thread nD τ).loc main_v57) = VL m d (Proc.devRef .tc main_v57)
    ∧ r.2.mem ((d.tc : Thread nD τ).loc main_v32) = VL m d (Proc.devRef .tc main_v32)

theorem run_ends : θ_run (Cert.ReferenceIdeal.defs (F := F)) (onTc (τ := τ) (main (F := F))) ⟨m, fun _ => 0, ρ⟩ (Ends m) :=
  (θ_run Cert.ReferenceIdeal.defs _ _).mono (fun r h => ⟨⟨fun d => ⟨(h d main_arg0).trans (VL_arg0 m d), (h d main_arg1).trans (VL_arg1 m d), (h d main_arg2).trans (VL_arg2 m d), (h d main_arg3).trans (VL_arg3 m d), (h d main_arg4).trans (VL_arg4 m d), (h d main_arg5).trans (VL_arg5 m d), (h d main_arg6).trans (VL_arg6 m d)⟩,
    sem_eq_zero_of_no_sems rfl r.2⟩, fun d => ⟨h d main_v39, h d main_v57, h d main_v32⟩⟩) (run m ρ)

end Cert.Proof.RI
-- ==== Proof.GatherBatch.lean ====
/-
  Several indirect gathers outstanding on ONE semaphore. Each gather is a stream of row copies; all the rows of all
  the gathers are the transfers of one counted batch (`Transfers.Batch`), which the tile allocates before the first
  gather and collects after the last wait. `wp_gatherBatch` issues one gather against the batch: it spends the issue
  rights of the gather's rows and leaves the deliveries (`gRow`) to the batch. `gRow_join` reads the deliveries of one
  gather back as the destination written, the source's share and the offset list's share.
-/
module

public import Idealize.ShloMosaic.Lib.Batch
public import Idealize.ShloMosaic.Lib.SparseCore.Stream
public import Idealize.ShloMosaic.Lib.SparseCore.Ops

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

section Pending

variable {M : Type} [URA M] {n : ℕ}

/-- The rows `k, …, k + o - 1` of the batch. -/
def blockEmb (k o : ℕ) (h : k + o ≤ n) : Fin o ↪ Fin n where
  toFun j := ⟨k + j.val, by omega⟩
  inj' a b e := by
    have h' : k + a.val = k + b.val := congrArg Fin.val e
    exact Fin.ext (by omega)

/-- The issue rights from `k` on are the next `o` of them and those from `k + o` on. -/
theorem pending_block (Φ : Fin n → sProp M) (k o : ℕ) (h : k + o ≤ n) :
    bigSep (Transfers.pending k) Φ
      = iprop(bigSep Finset.univ (fun j : Fin o => Φ ⟨k + j.val, by omega⟩) ∗ bigSep (Transfers.pending (k + o)) Φ) := by
  classical
  have hs : (Transfers.pending k : Finset (Fin n)) = (Finset.univ : Finset (Fin o)).map (blockEmb k o h) ∪ Transfers.pending (k + o) := by
    ext t
    rw [Finset.mem_union, Finset.mem_map, Transfers.pending, Transfers.pending, Finset.mem_filter, Finset.mem_filter]
    constructor
    · rintro ⟨-, ht⟩
      by_cases h' : k + o ≤ t.val
      · exact Or.inr ⟨Finset.mem_univ _, h'⟩
      · exact Or.inl ⟨⟨t.val - k, by omega⟩, Finset.mem_univ _, Fin.ext (show k + (t.val - k) = t.val by omega)⟩
    · rintro (⟨j, -, rfl⟩ | ⟨-, ht⟩)
      · exact ⟨Finset.mem_univ _, Nat.le_add_right _ _⟩
      · exact ⟨Finset.mem_univ _, by omega⟩
  have hd : Disjoint ((Finset.univ : Finset (Fin o)).map (blockEmb k o h)) (Transfers.pending (k + o) : Finset (Fin n)) := by
    refine Finset.disjoint_left.mpr fun t ht ht' => ?_
    obtain ⟨j, -, rfl⟩ := Finset.mem_map.mp ht
    have h' : k + o ≤ k + j.val := (Finset.mem_filter.mp ht').2
    omega
  rw [hs, BI.bigSep_union hd, BI.bigSep_map]; rfl

end Pending

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

section Row

variable (src : Memref sig c.2.kind sp s₀ e) (dst : Memref sig c.2.kind .vmem s e) (hg : s₀.Gathers a s)
  (offs : Memref sig c.2.kind .vmem si .i32) (hn : si.numel = s.size hg.axis') (ho : 0 < s.size hg.axis')
  (q qo : PosShare TreeShare) (fs : Buf (Elt F) (src.view.loc c)) (fd : Buf (Elt F) (dst.view.loc c)) (fo : Buf (Elt F) (offs.view.loc c))
  (r : Fin (s.size hg.axis') → Fin (s₀.size hg.axis))

/-- What row `j` of a gather delivers: the destination's row written with the row of the source that the list names,
    the list's entry back, and the row's piece of the source's share back. -/
def gRow (j : Fin (s.size hg.axis')) : sProp 𝕄 :=
  iprop(((dst.view.loc c ↦[(dst.view.slice (s.rowRect hg.axis' j)).set]{fullShare}
            ((dst.view.slice (s.rowRect hg.axis' j)).write (Elt F) fd (fun i => src.view.read (Elt F) fs (hg.rowIdx (r j) i)) Finset.univ))
        ∗ (offs.view.loc c ↦[{offs.view.emb (si.rowMajor.symm (j.cast hn.symm))}]{qo} fo))
      ∗ (src.view.loc c ↦[src.view.set]{pieceOf q _ ho j} fs))

instance gRow_storable (j : Fin (s.size hg.axis')) :
    Storable (upEmb : UEmb _ 𝕄) (gRow c src dst hg offs hn ho q qo fs fd fo r j) := by
  unfold gRow; infer_instance

/-- One gather's deliveries together. -/
theorem gRow_join :
    bigSep Finset.univ (gRow (Ix := Ix) (Name := Name) (U := U) (Lvl := Lvl) c src dst hg offs hn ho q qo fs fd fo r)
      ⊢ (iprop((dst.view.loc c ↦[dst.view.set]{fullShare} (dst.view.write (Elt F) fd (gatherPayload hg (src.view.read (Elt F) fs) r) Finset.univ))
          ∗ (src.view.loc c ↦[src.view.set]{q} fs) ∗ (offs.view.loc c ↦[offs.view.set]{qo} fo)) : sProp 𝕄) := by
  have hrows : bigSep Finset.univ (fun j => (dst.view.loc c ↦[(dst.view.slice (s.rowRect hg.axis' j)).set]{fullShare}
            ((dst.view.slice (s.rowRect hg.axis' j)).write (Elt F) fd (fun i => src.view.read (Elt F) fs (hg.rowIdx (r j) i)) Finset.univ) : sProp 𝕄))
      ⊢ (dst.view.loc c ↦[dst.view.set]{fullShare} (dst.view.write (Elt F) fd (gatherPayload hg (src.view.read (Elt F) fs) r) Finset.univ) : sProp 𝕄) :=
    pointsTo_rows_write (Ix := Ix) (Name := Name) (U := U) (Lvl := Lvl) c dst.view hg.axis' fd
      (fun j i => src.view.read (Elt F) fs (hg.rowIdx (r j) i)) (gatherPayload hg (src.view.read (Elt F) fs) r) fun j i => by
        unfold gatherPayload; rw [Shape.Gathers.idx_rowRect_emb]
  iintro HD
  unfold gRow
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · iapply (show _ ⊢ _ from hrows); iexact Hrows
  isplitl [Hsrc]
  · iapply (Entails.of_eq (pointsTo_piecesOf (src.view.set) fs ho q).symm) $$ Hsrc
  iapply (Entails.of_eq (pointsTo_entries c offs.view (fun j : Fin (s.size hg.axis') => si.rowMajor.symm (j.cast hn.symm))
    (si.rowMajor.symm.bijective.comp (finCongr hn.symm).bijective) qo fo).symm) $$ Hoffs

end Row

/-- Issuing one gather against a batch that has issued `k` rows and whose deliveries from `k` on are this gather's
    rows: the gather's `o` issue rights are spent, and its source share, destination and list share go to the batch. -/
theorem wp_gatherBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {kont : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) {D : Fin n → sProp 𝕄} {k u : ℕ} (ho : 0 < s.size hg.axis')
    (hN : ∀ j, (dst.slice (s.rowRect hg.axis' j) (s.stride_rowRect hg.axis' j)).view.dmaCredit = N)
    (hk : k + s.size hg.axis' ≤ n) (hu : u ≤ k * N)
    (hin : ∀ x, (offs.view.read (Elt F) fo x).toNat < s₀.size hg.axis)
    (hD : ∀ j : Fin (s.size hg.axis'), gRow c src dst hg offs hn ho q qo fs fd fo (rows (offs.view.read (Elt F) fo) hn hin) j
        ⊢ D ⟨k + j.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D k u)
      ⊢ iprop((Transfers.Batch EC c (.dma sem) ι N D (k + s.size hg.axis') u -∗ wp frame (wpE defs 𝒱 c bd) Set.univ (kont ⟨⟩) Q)
          -∗ wp frame (wpE defs 𝒱 c bd) Set.univ (enqueueIndirectGather hp src dst hg offs hn sem hsrc he hsp hr >>= kont) Q) := by
  rw [enqueueIndirectGather_bind]
  let fam : Fin (s.size hg.axis') → Elt F .i32 → Option (RowDma τ sig (Elt F) c.2 sem) :=
    fun j w => (rowOf (s₀.size hg.axis) w).map (gatherRow c src dst hg sem hsrc he hsp hr j)
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have agree : (Stream.issued c offs.view hn sem fam 0).RowsAgree := by
    intro j x x' y y' hx hy
    obtain ⟨_, _, rfl⟩ := Option.map_eq_some_iff.mp hx
    obtain ⟨_, _, rfl⟩ := Option.map_eq_some_iff.mp hy
    rfl
  have named : ∀ j, fam j ((Stream.issued c offs.view hn sem fam 0).word fo j) = some (rd j) := fun j => by
    change (rowOf (s₀.size hg.axis) (offs.view.read (Elt F) fo ((Stream.issued c offs.view hn sem fam 0).entry j))).map _ = _
    rw [rowOf_of_lt (hin _)]; rfl
  have total : ∑ j, (rd j).dst.view.dmaCredit = s.size hg.axis' * N := by
    rw [Finset.sum_congr rfl fun j _ => hN j, Finset.sum_const, Finset.card_univ, Fintype.card_fin, smul_eq_mul]
  unfold Transfers.Batch
  iintro ⟨Hs, Hd, Ho, ⟨%γ, %γ₀, %κ, #Hinv, Hright, Hused, Hcred⟩⟩ Hk
  ihave Hright' := (Entails.of_eq (pending_block (fun t => count EC (γ t) 0) k (s.size hg.axis') hk)) $$ Hright
  icases Hright' with ⟨Hnow, Hlater⟩
  ihave Hd' := (Entails.of_eq (pointsTo_rows c dst.view hg.axis' fullShare fd)) $$ Hd
  ihave Ho' := (Entails.of_eq (pointsTo_entries c offs.view (fun j : Fin (s.size hg.axis') => si.rowMajor.symm (j.cast hn.symm))
    (si.rowMajor.symm.bijective.comp (finCongr hn.symm).bijective) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) agree named total) $$ [Hd' Ho' Hs' Hnow]
  · have each : ∀ j : Fin (s.size hg.axis'), iprop(inv κ (Transfers.batchBody EC (c, SemLoc.dma sem) N D γ γ₀)
          ∗ ((((dst.view.loc c ↦[(dst.view.slice (s.rowRect hg.axis' j)).set]{fullShare} fd)
              ∗ (offs.view.loc c ↦[{offs.view.emb (si.rowMajor.symm (j.cast hn.symm))}]{qo} fo))
          ∗ (src.view.loc c ↦[src.view.set]{pieceOf q _ ho j} fs)) ∗ count EC (γ ⟨k + j.val, by omega⟩) 0))
        ⊢ iprop((Stream.issued c offs.view hn sem fam 0).heldEntry qo fo j
            ∗ ((Stream.issued c offs.view hn sem fam 0).heldEntry qo fo j -∗ rowRes c (rd j))) := fun j => by
      iintro ⟨#Hinv, ⟨⟨Hrow, Hent⟩, Hpiece⟩, Hright⟩
      isplitl [Hent]; · iexact Hent
      iintro Hent
      unfold rowRes
      iexists pieceOf q _ ho j, fs, iprop((dst.view.loc c ↦[(dst.view.slice (s.rowRect hg.axis' j)).set]{fullShare}
            ((dst.view.slice (s.rowRect hg.axis' j)).write (Elt F) fd (fun i => src.view.read (Elt F) fs (hg.rowIdx (r j) i)) Finset.univ))
        ∗ (offs.view.loc c ↦[{offs.view.emb (si.rowMajor.symm (j.cast hn.symm))}]{qo} fo))
      isplitl [Hpiece]; · iexact Hpiece
      isplitl [Hrow Hent]
      · iapply writeUpdate_frame
        isplitl [Hrow]
        · iapply (pointsTo_writeUpdate c (v := dst.view.slice (s.rowRect hg.axis' j)) subset_rfl) $$ Hrow
        · iexact Hent
      · have hjN : (rd j).dst.view.amount (.dma sem) = N := hN j
        rw [hjN]
        iapply (Transfers.batch_creditUpdate EC ⟨k + j.val, by omega⟩ (hD j))
        isplitr; · iexact Hinv
        iexact Hright
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hnow]; · isplitl [H2] <;> iassumption
    iapply (Transfers.bigSep_mono_pers Finset.univ _ _ _ fun j _ => each j)
    isplitr; · iexact Hinv
    iexact H3
  iintro Hnew
  iapply Hk
  iexists γ, γ₀, κ
  isplitr; · iexact Hinv
  isplitl [Hlater]; · iexact Hlater
  isplitl [Hused]; · iexact Hused
  rw [show (k + s.size hg.axis') * N - u = (k * N - u) + s.size hg.axis' * N by rw [Nat.add_mul]; omega, ← tallyAt_add]
  icombine Hcred Hnew as H
  iexact H

end Cert.Proof.GatherBatch

end
-- ==== Proof.SetupI.lean ====
/-
  The launch set-up of the kernel's certificate: the program as the launch theorem sees it, the resource algebra (the
  handshakes' rounds, the pipelined region's staging rounds, the transfers' counters), the buffers the SparseCore call
  reads and writes, and what one task of that call is handed.
-/
module

public import proofs.«01_k».proof.Defs
public import proofs.«01_k».proof.Proof.GatherBatch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The SparseCore handshakes' rounds, -/
abbrev UH : Type := URounds (GSem nD τ sig) ℕ
/-- the pipelined region's staging rounds, -/
abbrev UP : Type := URounds (GSem nD τ sig) Unit
/-- and the two beside the transfers' counters. -/
abbrev UU : Type := UH × (UP × Counters)

local notation "𝕄" => MT nD τ sig (HIx 1) (Elt F) ℕ UU ℕ

abbrev EH : Emb UH (MT nD τ sig (HIx 1) (Elt F) ℕ UU ℕ) := embL
/-- The staging rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The buffers of the SparseCore call -/

abbrev tLoc (d : Dev nD) : Loc nD τ sig := (SparseCore.T d).loc main_v1_1
abbrev lLoc (d : Dev nD) : Loc nD τ sig := (SparseCore.T d).loc main_v3
abbrev oLoc (d : Dev nD) : Loc nD τ sig := (SparseCore.T d).loc main_v4

abbrev tV : Memref sig Kind.scVector Space.hbm S1024x384 EltTy.f32 := Memref.whole main_v1_1_scv
abbrev lV : Memref sig Kind.scVector Space.hbm S32x2x128 EltTy.i32 := Memref.whole main_v3_scv
abbrev oV : Memref sig Kind.scVector Space.hbm S8192x384 EltTy.f32 := Memref.whole main_v4_scv
abbrev sV : Memref sig Kind.scVector Space.vmem S2x128 EltTy.i32 := Memref.whole cc1_scratch0
abbrev rV : Memref sig Kind.scVector Space.vmem S2x128x384 EltTy.f32 := Memref.whole cc1_scratch1

theorem ldiv : 32 ∣ S32x2x128.size 0 := ⟨1, rfl⟩
theorem odiv : 64 ∣ S8192x384.size 0 := ⟨128, rfl⟩
/-- Task `w`'s list: plane `w` of the index array, -/
abbrev lrow (w : Fin 32) : Rect S32x2x128 := Rect.part (s := S32x2x128) (a₀ := 0) ldiv w
/-- and the `b`-th block of 128 rows of the output. -/
abbrev orow (b : Fin 64) : Rect S8192x384 := Rect.part (s := S8192x384) (a₀ := 0) odiv b
abbrev lRowSet (w : Fin 32) : Finset S32x2x128.Idx := ((lV).view.slice (lrow w)).set
abbrev oRowSet (b : Fin 64) : Finset S8192x384.Idx := ((oV).view.slice (orow b)).set

/-- The output as a function of the table and the list: row `p` is the table's row named by word `p` of the list. -/
def gathered (ft : S1024x384.Idx → Elt F .f32) (fl : S32x2x128.Idx → BitVec 32) : S8192x384.Idx → Elt F .f32 := fun x =>
  ft (ix2 (⟨(fl (ix3 ⟨(x 0).val / 256, by have : (x 0).val < 8192 := (x 0).isLt; omega⟩ ⟨(x 0).val / 128 % 2, by omega⟩ ⟨(x 0).val % 128, by omega⟩)).toNat % 1024, by omega⟩ : Fin 1024) (x 1))

/-- The number of the task on SparseCore `c`'s tile `i`, -/
def taskNo (c : Fin 2) (i : Fin 16) : Fin 32 := ⟨2 * i.val + c.val, by omega⟩
/-- and its `j`-th block. -/
def blkNo (c : Fin 2) (i : Fin 16) (j : Fin 2) : Fin 64 := ⟨2 * (2 * i.val + c.val) + j.val, by omega⟩

/-- Task `w`'s share of the table. -/
abbrev tq (w : Fin 32) : PosShare TreeShare := pieceOf fullShare 32 (by decide) w

abbrev tPts (d : Dev nD) (q : PosShare TreeShare) (ft : S1024x384.Idx → Elt F .f32) : sProp 𝕄 := tLoc d ↦{q} ft
abbrev lPts (d : Dev nD) (w : Fin 32) (fl : S32x2x128.Idx → BitVec 32) : sProp 𝕄 := lLoc d ↦[lRowSet w]{fullShare} fl
abbrev oPts (d : Dev nD) (b : Fin 64) (fo : S8192x384.Idx → Elt F .f32) : sProp 𝕄 := oLoc d ↦[oRowSet b]{fullShare} fo

/-- What a task holds: its share of the table, its list, its two blocks of the output. -/
abbrev taskPts (d : Dev nD) (c : Fin 2) (i : Fin 16) (ft : S1024x384.Idx → Elt F .f32) (fl : S32x2x128.Idx → BitVec 32) (fo : S8192x384.Idx → Elt F .f32) : sProp 𝕄 :=
  iprop(tPts d (tq (taskNo c i)) ft ∗ lPts d (taskNo c i) fl ∗ oPts d (blkNo c i 0) fo ∗ oPts d (blkNo c i 1) fo)

end Cert.Proof.KI
-- ==== Proof.BodyI.lean ====
/-
  The TensorCore region's body, at one grid point: from the staged blocks and the scratch buffers it runs to its return,
  leaving each written buffer at the value the printed payloads compute. Three cases: the first point, which also
  normalizes the codebook, projects it and clears the loss accumulator; a middle point; the last point, which also
  writes the loss.
-/
module

public import proofs.«01_k».proof.Proof.SetupI
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.WordCmp
public import Idealize.ShloMosaic.Lib.VecWindow
public import Idealize.ShloMosaic.Lib.CellWrites

@[expose] public section

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## The values -/

/-- The loss accumulator after one block of rows, from the block, the first projection, the normalized codebook, its
    squared norms, and the accumulator before. -/
def accStep (x : Vec F S512x384 .f32) (wi : Vec F S384x64 .f32) (cbn : Vec F S1024x64 .f32) (cbn2 : Vec F S1x1024 .f32) (a : Elt F .f32) : Elt F .f32 :=
  k0_pay1 (k0_pay11 x wi cbn) (k0_pay12 x wi cbn) (k0_pay14 x wi) cbn2 a

/-- The accumulator's first value. -/
def acc0 : Elt F .f32 := Scalar.ofBits .f32 0x00000000#32

/-- The rectangle of the accumulator's word. -/
abbrev rAcc : Rect S2 := Rect.unit (s := S2) ![0] S1.size inb_S2_S1_0

theorem mem_rAcc : (ix1 (0 : Fin 2) : S2.Idx) ∈ rAcc.set := by decide

abbrev sc0 : Memref sig .tc .vmem S1024x64 .f32 := Memref.whole cc0_scratch0
abbrev sc1 : Memref sig .tc .vmem S1x1024 .f32 := Memref.whole cc0_scratch1
abbrev sc2 : Memref sig .tc .smem S2 .f32 := Memref.whole cc0_scratch2

/-- The accumulator's buffer, its first word at `a`. -/
def accPts (c : Dev nD) (a : Elt F .f32) : sProp 𝕄 :=
  iprop(∃ f : S2.Idx → Elt F .f32, ⌜f (ix1 (0 : Fin 2)) = a⌝ ∗ sc2.view.loc (c : Thread nD τ) ↦{fullShare} f)

theorem congr3 {α β γ δ : Type} (f : α → β → γ → δ) {a a' : α} {b b' : β} {c c' : γ} (h : a = a') (h' : b = b') (h'' : c = c') :
    f a b c = f a' b' c' := by subst h h' h''; rfl

/-- The step's value from its operands' values. -/
theorem accStep_of {x x' : Vec F S512x384 .f32} {wi wi' : Vec F S384x64 .f32} {cbn cbn' : Vec F S1024x64 .f32} {cbn2 cbn2' : Vec F S1x1024 .f32}
    {a a' : Elt F .f32} (hx : x = x') (hw : wi = wi') (hc : cbn = cbn') (h2 : cbn2 = cbn2') (ha : a = a') :
    k0_pay1 (k0_pay11 x wi cbn) (k0_pay12 x wi cbn) (k0_pay14 x wi) cbn2 a = accStep x' wi' cbn' cbn2' a' := by
  subst hx hw hc h2 ha; rfl

/-- The accumulator's word after a store into it, -/
theorem acc_written (g : S2.Idx → Elt F .f32) (p : Elt F .f32) (L : List (View.Piece (Elt F) S2 .f32)) :
    (sc2.view.writes (Elt F) g ((⟨rAcc, fun _ => p⟩ : View.Piece (Elt F) S2 .f32) :: L) : S2.Idx → Elt F .f32) (ix1 (0 : Fin 2)) = p :=
  (View.read_writes_cons_cell (v := sc2.view) g (off := ![0]) inb_S2_S1_0 p L (ix1 (0 : Fin 2))).trans (if_pos rfl)

/-- and as a load finds it. -/
theorem acc_loaded (g : S2.Idx → Elt F .f32) (x : rAcc.shape.Idx) :
    sc2.view.readAt (Elt F) rAcc.toLoadRect g x = g (ix1 (0 : Fin 2)) := by
  show g (rAcc.emb x) = _
  refine congrArg g (funext fun a => Fin.ext ?_)
  fin_cases a
  show 0 + 1 * (x 0).val = 0
  have : (x 0).val < 1 := (x 0).isLt
  omega

section
variable (c : Dev nD) (i : grid0.Coords)
  (a1 : Memref sig .tc .vmem S512x384 .f32) (h1 : a1.IsWhole) (a2 : Memref sig .tc .vmem S384x64 .f32) (h2 : a2.IsWhole)
  (a3 : Memref sig .tc .vmem S64x384 .f32) (h3 : a3.IsWhole) (a4 : Memref sig .tc .vmem S1024x64 .f32) (h4 : a4.IsWhole)
  (a5 : Memref sig .tc .vmem S512x1 .i32) (h5 : a5.IsWhole) (a6 : Memref sig .tc .vmem S1024x384 .f32) (h6 : a6.IsWhole)
  (a7 : Memref sig .tc .smem S1x1 .f32) (h7 : a7.IsWhole)
  (x : Vec F S512x384 .f32) (wi : Vec F S384x64 .f32) (wo : Vec F S64x384 .f32) (cb : Vec F S1024x64 .f32)

/-- A middle point. -/
theorem body_mid (hc1 : ¬ k0_cond1 i = 1#1) (hc2 : ¬ k0_cond2 i = 1#1) (cbn : Vec F S1024x64 .f32) (cbn2 : Vec F S1x1024 .f32) (a : Elt F .f32)
    (Q : PUnit → sProp 𝕄) :
    iprop(owns (c : Thread nD τ) a1 fullShare x ∗ owns (c : Thread nD τ) a2 fullShare wi ∗ (∃ d, owns (c : Thread nD τ) a5 fullShare d)
        ∗ owns (c : Thread nD τ) sc0 fullShare cbn ∗ owns (c : Thread nD τ) sc1 fullShare cbn2 ∗ accPts c a
        ∗ (iprop(owns (c : Thread nD τ) a1 fullShare x ∗ owns (c : Thread nD τ) a2 fullShare wi
            ∗ owns (c : Thread nD τ) a5 fullShare (k0_pay13 x wi cbn)
            ∗ owns (c : Thread nD τ) sc0 fullShare cbn ∗ owns (c : Thread nD τ) sc1 fullShare cbn2
            ∗ accPts c (accStep x wi cbn cbn2 a)) -∗ Q ⟨⟩))
      ⊢ wp frame (wpE (defs₀ (F := F)) Variants.none (c : Thread nD τ) none) Set.univ
          (cc0__tc_body i a1 h1 a2 h2 a3 h3 a4 h4 a5 h5 a6 h6 a7 h7 sc0 (Memref.isWhole_whole _) sc1 (Memref.isWhole_whole _) sc2 (Memref.isWhole_whole _)) Q := by
  simp only [cc0__tc_body_eq_skeleton]; unfold cc0__tc_body_skel
  unfold owns accPts
  iintro ⟨⟨%f1, %hf1, H1⟩, ⟨%f2, %hf2, H2⟩, ⟨%d5, %f5, -, H5⟩, ⟨%g0, %hg0, G0⟩, ⟨%g1, %hg1, G1⟩, ⟨%g2, %hg2, G2⟩, Hk⟩
  subst hf1 hf2 hg0 hg1 hg2
  sl_exec
  sl_step
  iapply Hk
  isplitl [H1]
  · iexists f1; isplitr; · (ipureintro; rfl)
    iexact H1
  isplitl [H2]
  · iexists f2; isplitr; · (ipureintro; rfl)
    iexact H2
  isplitl [H5]
  · iexists _; isplitr
    swap; · iexact H5
    ipureintro
    exact (View.read_writes_full ..).trans (congr3 k0_pay13 (View.readAt_full ..) (View.readAt_full ..) (View.readAt_full ..))
  isplitl [G0]
  · iexists g0; isplitr; · (ipureintro; rfl)
    iexact G0
  isplitl [G1]
  · iexists g1; isplitr; · (ipureintro; rfl)
    iexact G1
  iexists _; isplitr
  swap; · iexact G2
  ipureintro
  refine (acc_written g2 _ []).trans ?_
  unfold body_mid.sl.r body_mid.sl.r_1 body_mid.sl.r_2 body_mid.sl.r_3
  exact accStep_of (View.readAt_full ..) (View.readAt_full ..) (View.readAt_full ..) (View.readAt_full ..) (acc_loaded g2 _)

/-- The last point. -/
theorem body_last (hc1 : ¬ k0_cond1 i = 1#1) (hc2 : k0_cond2 i = 1#1) (cbn : Vec F S1024x64 .f32) (cbn2 : Vec F S1x1024 .f32) (a : Elt F .f32)
    (Q : PUnit → sProp 𝕄) :
    iprop(owns (c : Thread nD τ) a1 fullShare x ∗ owns (c : Thread nD τ) a2 fullShare wi ∗ (∃ d, owns (c : Thread nD τ) a5 fullShare d)
        ∗ (∃ d, owns (c : Thread nD τ) a7 fullShare d)
        ∗ owns (c : Thread nD τ) sc0 fullShare cbn ∗ owns (c : Thread nD τ) sc1 fullShare cbn2 ∗ accPts c a
        ∗ (iprop(owns (c : Thread nD τ) a1 fullShare x ∗ owns (c : Thread nD τ) a2 fullShare wi
            ∗ owns (c : Thread nD τ) a5 fullShare (k0_pay13 x wi cbn)
            ∗ owns (c : Thread nD τ) a7 fullShare (fun _ => k0_pay2 (accStep x wi cbn cbn2 a))
            ∗ owns (c : Thread nD τ) sc0 fullShare cbn ∗ owns (c : Thread nD τ) sc1 fullShare cbn2
            ∗ accPts c (accStep x wi cbn cbn2 a)) -∗ Q ⟨⟩))
      ⊢ wp frame (wpE (defs₀ (F := F)) Variants.none (c : Thread nD τ) none) Set.univ
          (cc0__tc_body i a1 h1 a2 h2 a3 h3 a4 h4 a5 h5 a6 h6 a7 h7 sc0 (Memref.isWhole_whole _) sc1 (Memref.isWhole_whole _) sc2 (Memref.isWhole_whole _)) Q := by
  simp only [cc0__tc_body_eq_skeleton]; unfold cc0__tc_body_skel
  unfold owns accPts
  iintro ⟨⟨%f1, %hf1, H1⟩, ⟨%f2, %hf2, H2⟩, ⟨%d5, %f5, -, H5⟩, ⟨%d7, %f7, -, H7⟩, ⟨%g0, %hg0, G0⟩, ⟨%g1, %hg1, G1⟩, ⟨%g2, %hg2, G2⟩, Hk⟩
  subst hf1 hf2 hg0 hg1 hg2
  sl_exec
  sl_step
  iapply Hk
  isplitl [H1]
  · iexists f1; isplitr; · (ipureintro; rfl)
    iexact H1
  isplitl [H2]
  · iexists f2; isplitr; · (ipureintro; rfl)
    iexact H2
  isplitl [H5]
  · iexists _; isplitr
    swap; · iexact H5
    ipureintro
    exact (View.read_writes_full ..).trans (congr3 k0_pay13 (View.readAt_full ..) (View.readAt_full ..) (View.readAt_full ..))
  isplitl [H7]
  · iexists _; isplitr
    swap; · iexact H7
    ipureintro
    refine (View.read_writes_full ..).trans ?_
    funext y
    unfold body_last.sl.r_4 body_last.sl.r body_last.sl.r_1 body_last.sl.r_2 body_last.sl.r_3
    exact congrArg k0_pay2 (accStep_of (View.readAt_full ..) (View.readAt_full ..) (View.readAt_full ..) (View.readAt_full ..) (acc_loaded g2 _))
  isplitl [G0]
  · iexists g0; isplitr; · (ipureintro; rfl)
    iexact G0
  isplitl [G1]
  · iexists g1; isplitr; · (ipureintro; rfl)
    iexact G1
  iexists _; isplitr
  swap; · iexact G2
  ipureintro
  refine (acc_written g2 _ []).trans ?_
  unfold body_last.sl.r body_last.sl.r_1 body_last.sl.r_2 body_last.sl.r_3
  exact accStep_of (View.readAt_full ..) (View.readAt_full ..) (View.readAt_full ..) (View.readAt_full ..) (acc_loaded g2 _)

/-- The first point. -/
theorem body_first (hc1 : k0_cond1 i = 1#1) (hc2 : ¬ k0_cond2 i = 1#1) (Q : PUnit → sProp 𝕄) :
    iprop(owns (c : Thread nD τ) a1 fullShare x ∗ owns (c : Thread nD τ) a2 fullShare wi ∗ owns (c : Thread nD τ) a3 fullShare wo
        ∗ owns (c : Thread nD τ) a4 fullShare cb ∗ (∃ d, owns (c : Thread nD τ) a5 fullShare d) ∗ (∃ d, owns (c : Thread nD τ) a6 fullShare d)
        ∗ (∃ d, owns (c : Thread nD τ) sc0 fullShare d) ∗ (∃ d, owns (c : Thread nD τ) sc1 fullShare d) ∗ (∃ d, accPts c d)
        ∗ (iprop(owns (c : Thread nD τ) a1 fullShare x ∗ owns (c : Thread nD τ) a2 fullShare wi ∗ owns (c : Thread nD τ) a3 fullShare wo
            ∗ owns (c : Thread nD τ) a4 fullShare cb
            ∗ owns (c : Thread nD τ) a5 fullShare (k0_pay13 x wi (k0_pay4 cb)) ∗ owns (c : Thread nD τ) a6 fullShare (k0_pay6 cb wo)
            ∗ owns (c : Thread nD τ) sc0 fullShare (k0_pay4 cb) ∗ owns (c : Thread nD τ) sc1 fullShare (k0_pay5 cb)
            ∗ accPts c (accStep x wi (k0_pay4 cb) (k0_pay5 cb) acc0)) -∗ Q ⟨⟩))
      ⊢ wp frame (wpE (defs₀ (F := F)) Variants.none (c : Thread nD τ) none) Set.univ
          (cc0__tc_body i a1 h1 a2 h2 a3 h3 a4 h4 a5 h5 a6 h6 a7 h7 sc0 (Memref.isWhole_whole _) sc1 (Memref.isWhole_whole _) sc2 (Memref.isWhole_whole _)) Q := by
  simp only [cc0__tc_body_eq_skeleton]; unfold cc0__tc_body_skel
  unfold owns accPts
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%e0, %g0, -, G0⟩, ⟨%e1, %g1, -, G1⟩, ⟨%e2, %g2, -, G2⟩, Hk⟩
  subst hf1 hf2 hf3 hf4
  sl_exec
  sl_step
  iapply Hk
  isplitl [H1]
  · iexists f1; isplitr; · (ipureintro; rfl)
    iexact H1
  isplitl [H2]
  · iexists f2; isplitr; · (ipureintro; rfl)
    iexact H2
  isplitl [H3]
  · iexists f3; isplitr; · (ipureintro; rfl)
    iexact H3
  isplitl [H4]
  · iexists f4; isplitr; · (ipureintro; rfl)
    iexact H4
  isplitl [H5]
  · iexists _; isplitr
    swap; · iexact H5
    ipureintro
    refine (View.read_writes_full ..).trans (congr3 k0_pay13 (View.readAt_full ..) (View.readAt_full ..) ?_)
    unfold body_first.sl.v23 body_first.sl.G0_1
    exact (View.readCov_full ..).trans (congrArg k0_pay4 (View.readAt_full ..))
  isplitl [H6]
  · iexists _; isplitr
    swap; · iexact H6
    ipureintro
    exact (View.read_writes_full ..).trans (congrArg₂ k0_pay6 (View.readAt_full ..) (View.readAt_full ..))
  isplitl [G0]
  · iexists _; isplitr
    swap; · iexact G0
    ipureintro
    unfold body_first.sl.G0_1
    exact (View.read_writes_full ..).trans (congrArg k0_pay4 (View.readAt_full ..))
  isplitl [G1]
  · iexists _; isplitr
    swap; · iexact G1
    ipureintro
    unfold body_first.sl.G1_1
    exact (View.read_writes_full ..).trans (congrArg k0_pay5 (View.readAt_full ..))
  iexists _; isplitr
  swap; · iexact G2
  ipureintro
  refine (acc_written g2 _ _).trans ?_
  unfold body_first.sl.r_1 body_first.sl.r_2 body_first.sl.r_3 body_first.sl.v37 body_first.sl.cst_39
  refine accStep_of (View.readAt_full ..) (View.readAt_full ..) ?_ ?_ rfl
  · unfold body_first.sl.v23 body_first.sl.G0_1
    exact (View.readCov_full ..).trans (congrArg k0_pay4 (View.readAt_full ..))
  · unfold body_first.sl.G1_1
    exact (View.readCov_full ..).trans (congrArg k0_pay5 (View.readAt_full ..))

end

end Cert.Proof.KI
-- ==== Proof.RegionI.lean ====
/-
  The TensorCore region: the proof data of its one pipeline — what each window's buffer holds after each grid point, the
  scratch buffers' contents between points —, the body obligation at every point, and the region as a segment of the
  host program, entered and left while the core owes the SparseCore call's start.
-/
module

public import proofs.«01_k».proof.Proof.BodyI
public import Idealize.ShloMosaic.Lib.Pipeline.RegionArrays

@[expose] public section

set_option maxRecDepth 16384

noncomputable section

namespace Cert.Proof.KI

open Cert.KernelIdeal Cert.KernelIdeal.Gen

open Idealize.ShloMosaic Idealize.ShloMosaic.TcCoe
open Idealize.ShloMosaic.Pipeline (Dat BodyObligation BodyObligationLoose)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## The grid -/

theorem cond1_iff (t : Fin cfg0.N) : k0_cond1 (grid0.coords t) = 1#1 ↔ t.val = 0 :=
  (by decide : ∀ t : Fin grid0.N, k0_cond1 (grid0.coords t) = 1#1 ↔ t.val = 0) t
theorem cond2_iff (t : Fin cfg0.N) : k0_cond2 (grid0.coords t) = 1#1 ↔ t.val = 15 :=
  (by decide : ∀ t : Fin grid0.N, k0_cond2 (grid0.coords t) = 1#1 ↔ t.val = 15) t

theorem t_lt (t : Fin cfg0.N) : t.val < 16 := lt_of_lt_of_eq t.isLt N_0

theorem idle5 (t : Fin cfg0.N) : cfg0.idle 5 (cfg0.grid.coords t) = decide (t.val ≠ 0) := by
  show (!(k0_cond1 (grid0.coords t) == 1#1)) = _
  have h := cond1_iff t
  by_cases h0 : t.val = 0
  · rw [h.2 h0]; simp [h0]
  · have : ¬ k0_cond1 (grid0.coords t) = 1#1 := fun e => h0 (h.1 e)
    simp [this, h0]
theorem idle6 (t : Fin cfg0.N) : cfg0.idle 6 (cfg0.grid.coords t) = decide (t.val ≠ 15) := by
  show (!(k0_cond2 (grid0.coords t) == 1#1)) = _
  have h := cond2_iff t
  by_cases h0 : t.val = 15
  · rw [h.2 h0]; simp [h0]
  · have : ¬ k0_cond2 (grid0.coords t) = 1#1 := fun e => h0 (h.1 e)
    simp [this, h0]

theorem flush5 (t : Fin cfg0.N) : (cfg0.win 5).flush t = decide (t.val = 15) := by
  have h := flush0_5 t
  have ht := t_lt t
  by_cases h0 : t.val = 15
  · rw [h.2 (by omega)]; simp [h0]
  · have : ¬ (cfg0.win 5).flush t = true := fun e => h0 (by have := h.1 e; omega)
    simp [h0, Bool.eq_false_iff.2 this]
theorem flush6 (t : Fin cfg0.N) : (cfg0.win 6).flush t = decide (t.val = 15) := by
  have h := flush0_6 t
  have ht := t_lt t
  by_cases h0 : t.val = 15
  · rw [h.2 (by omega)]; simp [h0]
  · have : ¬ (cfg0.win 6).flush t = true := fun e => h0 (by have := h.1 e; omega)
    simp [h0, Bool.eq_false_iff.2 this]

/-! ## The proof data -/

variable (V : (c : Dev nD) → (b : Ref sig .tc) → Buf (Elt F) ((c.tc : Thread nD τ).loc b))

/-- Window `w`'s block at point `t` of the arrays at `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The blocks at their literal shapes: a block of rows, -/
def xB (c : Dev nD) (t : Fin cfg0.N) : Vec F S512x384 .f32 := iblk V c 0 t
/-- the first projection, -/
def wiB (c : Dev nD) (t : Fin cfg0.N) : Vec F S384x64 .f32 := iblk V c 1 t
/-- the second, -/
def woB (c : Dev nD) : Vec F S64x384 .f32 := iblk V c 2 t0_0
/-- the codebook. -/
def cbB (c : Dev nD) : Vec F S1024x64 .f32 := iblk V c 3 t0_0

/-- The normalized codebook and its squared norms, as the first point leaves them. -/
def cbnB (c : Dev nD) : Vec F S1024x64 .f32 := k0_pay4 (cbB V c)
def cbn2B (c : Dev nD) : Vec F S1x1024 .f32 := k0_pay5 (cbB V c)

/-- The loss accumulator before point `n`. -/
def accAt (c : Dev nD) : ℕ → Elt F .f32
  | 0 => acc0
  | n + 1 => if h : n < cfg0.N then accStep (xB V c ⟨n, h⟩) (wiB V c ⟨n, h⟩) (cbnB V c) (cbn2B V c) (accAt c n) else accAt c n

/-- The index words a point leaves, the projected table, the loss. -/
def idxB (c : Dev nD) (t : Fin cfg0.N) : Vec F S512x1 .i32 := k0_pay13 (xB V c t) (wiB V c t) (cbnB V c)
def tabB (c : Dev nD) : Vec F S1024x384 .f32 := k0_pay6 (cbB V c) (woB V c)
def lossB (c : Dev nD) : Vec F S1x1 .f32 := fun _ => k0_pay2 (accAt V c 16)

/-- The scratch buffers before point `n`. -/
def ΦS (c : Dev nD) (n : ℕ) : sProp 𝕄 :=
  if n = 0 then iprop((∃ d, owns (c : Thread nD τ) sc0 fullShare d) ∗ (∃ d, owns (c : Thread nD τ) sc1 fullShare d) ∗ (∃ d, accPts c d))
  else iprop(owns (c : Thread nD τ) sc0 fullShare (cbnB V c) ∗ owns (c : Thread nD τ) sc1 fullShare (cbn2B V c) ∗ accPts c (accAt V c n))

/-- The proof data of the region's pipeline on core `c`. -/
def dats (_ : Fin 1) (c : Dev nD) : Dat τ (Elt F) (HIx 1) ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => idxB V c t
    | ⟨5, _⟩ => tabB V c
    | ⟨6, _⟩ => lossB V c
  Φ t := ΦS V c t.val
  q _ := fullShare
  owed _ := (K (F := F)).Otc c 0
  recorded _ := {p | (K (F := F)).lev ((c.tc : Thread nD τ), p.1) p.2 ≤ 0}

theorem A_eq (c : Dev nD) (w : Fin cfg0.W) : (dats V 0 c).A w = V c (Pipeline.arrRef spec0 w) := by dsimp only [dats]
theorem after0 (c : Dev nD) (t : Fin cfg0.N) : (dats V 0 c).after 0 t = iblk V c 0 t := by dsimp only [dats]
theorem after1 (c : Dev nD) (t : Fin cfg0.N) : (dats V 0 c).after 1 t = iblk V c 1 t := by dsimp only [dats]
theorem after2 (c : Dev nD) (t : Fin cfg0.N) : (dats V 0 c).after 2 t = iblk V c 2 t := by dsimp only [dats]
theorem after3 (c : Dev nD) (t : Fin cfg0.N) : (dats V 0 c).after 3 t = iblk V c 3 t := by dsimp only [dats]
theorem after4 (c : Dev nD) (t : Fin cfg0.N) : (dats V 0 c).after 4 t = idxB V c t := by dsimp only [dats]
theorem after5 (c : Dev nD) (t : Fin cfg0.N) : (dats V 0 c).after 5 t = tabB V c := by dsimp only [dats]
theorem after6 (c : Dev nD) (t : Fin cfg0.N) : (dats V 0 c).after 6 t = lossB V c := by dsimp only [dats]

theorem before0 (c : Dev nD) (t : Fin cfg0.N) (d) : (dats V 0 c).before 0 t d = iblk V c 0 t :=
  ((dats V 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats V 0 c).before 1 t d = iblk V c 1 t :=
  ((dats V 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats V 0 c).before 2 t d = iblk V c 2 t :=
  ((dats V 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats V 0 c).before 3 t d = iblk V c 3 t :=
  ((dats V 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- The table's buffer, after the first point, holds the table. -/
theorem before5 (c : Dev nD) (d) : ∀ (n : ℕ) (h : n + 1 < cfg0.N), (dats V 0 c).before 5 ⟨n + 1, h⟩ d = tabB V c
  | n, h => by
    have hn : n < cfg0.N := Nat.lt_of_succ_lt h
    have h16 : n + 1 < 16 := lt_of_lt_of_eq h N_0
    rw [(dats V 0 c).before_of_pos 5 ⟨n + 1, h⟩ (Nat.succ_ne_zero n) (by rfl)]
    have hfl : (cfg0.win 5).flush (⟨n, hn⟩ : Fin cfg0.N) = false := by
      rw [flush5]; exact decide_eq_false (by show ¬ n = 15; omega)
    have e : (⟨(⟨n + 1, h⟩ : Fin cfg0.N).val - 1, Nat.lt_of_le_of_lt (Nat.sub_le _ _) h⟩ : Fin cfg0.N) = ⟨n, hn⟩ := rfl
    rw [e, hfl, if_neg Bool.false_ne_true]
    unfold Dat.left
    rw [idle5]
    cases n with
    | zero =>
      have : decide ((⟨0, hn⟩ : Fin cfg0.N).val ≠ 0) = false := rfl
      rw [this]
      show (dats V 0 c).kept 5 ⟨0, hn⟩ d = _
      unfold Dat.kept
      rw [after5]; rfl
    | succ n =>
      have : decide ((⟨n + 1, hn⟩ : Fin cfg0.N).val ≠ 0) = true := rfl
      rw [this]
      exact before5 c d n hn

theorem accAt_succ (c : Dev nD) (t : Fin cfg0.N) :
    accAt V c (t.val + 1) = accStep (xB V c t) (wiB V c t) (cbnB V c) (cbn2B V c) (accAt V c t.val) := by
  rw [accAt, dif_pos t.isLt]

theorem ΦS_zero (c : Dev nD) :
    ΦS V c 0 = iprop((∃ d, owns (c : Thread nD τ) sc0 fullShare d) ∗ (∃ d, owns (c : Thread nD τ) sc1 fullShare d) ∗ (∃ d, accPts c d)) := if_pos rfl
theorem ΦS_pos (c : Dev nD) {n : ℕ} (h : n ≠ 0) :
    ΦS V c n = iprop(owns (c : Thread nD τ) sc0 fullShare (cbnB V c) ∗ owns (c : Thread nD τ) sc1 fullShare (cbn2B V c) ∗ accPts c (accAt V c n)) := if_neg h

/-! ## The body obligation -/

/-- What the body is called with at point `t`, -/
def bodyPre (c : Dev nD) (t : Fin cfg0.N) : sProp 𝕄 :=
  iprop((dats V 0 c).Φ t.castSucc ∗ (dats V 0 c).owesAt none t.castSucc
    ∗ (∃ d, owns (c : Thread nD τ) (st0_0 t) fullShare ((dats V 0 c).before 0 t d))
    ∗ (∃ d, owns (c : Thread nD τ) (st0_1 t) fullShare ((dats V 0 c).before 1 t d))
    ∗ (∃ d, owns (c : Thread nD τ) (st0_2 t) fullShare ((dats V 0 c).before 2 t d))
    ∗ (∃ d, owns (c : Thread nD τ) (st0_3 t) fullShare ((dats V 0 c).before 3 t d))
    ∗ (∃ d, owns (c : Thread nD τ) (st0_4 t) fullShare ((dats V 0 c).before 4 t d))
    ∗ (∃ d, owns (c : Thread nD τ) (st0_5 t) fullShare ((dats V 0 c).before 5 t d))
    ∗ (∃ d, owns (c : Thread nD τ) (st0_6 t) fullShare ((dats V 0 c).before 6 t d)))

/-- and what it returns. -/
def bodyPost (c : Dev nD) (t : Fin cfg0.N) : sProp 𝕄 :=
  iprop((dats V 0 c).Φ t.succ ∗ (dats V 0 c).owesAt none t.succ
    ∗ owns (c : Thread nD τ) (st0_0 t) fullShare ((dats V 0 c).after 0 t)
    ∗ owns (c : Thread nD τ) (st0_1 t) fullShare ((dats V 0 c).after 1 t)
    ∗ owns (c : Thread nD τ) (st0_2 t) fullShare ((dats V 0 c).after 2 t)
    ∗ owns (c : Thread nD τ) (st0_3 t) fullShare ((dats V 0 c).after 3 t)
    ∗ owns (c : Thread nD τ) (st0_4 t) fullShare ((dats V 0 c).after 4 t)
    ∗ (dats V 0 c).leavesExact 5 t
    ∗ (dats V 0 c).leavesExact 6 t)

theorem leaves_busy (c : Dev nD) (w : Fin cfg0.W) (t : Fin cfg0.N) (hi : cfg0.idle w (cfg0.grid.coords t) = false) :
    (dats V 0 c).leavesExact w t = owns (c : Thread nD τ) ((cfg0.win w).stage (cfg0.slots t w)) fullShare ((dats V 0 c).after w t) := by
  unfold Dat.leavesExact; rw [hi]
theorem leaves_flushed (c : Dev nD) (w : Fin cfg0.W) (t : Fin cfg0.N) (hi : cfg0.idle w (cfg0.grid.coords t) = true) (hf : (cfg0.win w).flush t = true) :
    (dats V 0 c).leavesExact w t = owns (c : Thread nD τ) ((cfg0.win w).stage (cfg0.slots t w)) fullShare ((dats V 0 c).after w t) := by
  unfold Dat.leavesExact; rw [hi, hf]

theorem sound_first (c : Dev nD) (t : Fin cfg0.N) (h0 : t.val = 0) :
    bodyPre V c t ⊢ wp frame (wpE (defs₀ (F := F)) Variants.none (c : Thread nD τ) none) Set.univ (bodyAt0 t) (fun _ => bodyPost V c t) := by
  have ht : t = t0_0 := Fin.ext h0
  have hne : ¬ t.val = 15 := by omega
  unfold bodyPre bodyPost bodyAt0
  simp only [before0, before1, before2, before3]
  rw [show (dats V 0 c).Φ t.castSucc = ΦS V c t.val from rfl, show (dats V 0 c).Φ t.succ = ΦS V c (t.val + 1) from rfl,
    show (dats V 0 c).owesAt none t.succ = (dats V 0 c).owesAt none t.castSucc from rfl,
    leaves_busy V c 5 t (by rw [idle5, h0]; rfl), (dats V 0 c).leavesExact_idle 6 t (by rw [idle6, h0]; rfl) (by rw [flush6, h0]; rfl),
    after0, after1, after2, after3, after4, after5, ΦS_pos V c (Nat.succ_ne_zero _), accAt_succ, h0, ΦS_zero]
  iintro ⟨⟨G0, G1, G2⟩, Ho, ⟨%d0, H0⟩, ⟨%d1, H1⟩, ⟨%d2, H2⟩, ⟨%d3, H3⟩, ⟨%d4, H4⟩, ⟨%d5, H5⟩, H6⟩
  iapply (body_first c (grid0.coords t) _ _ _ _ _ _ _ _ _ _ _ _ _ _ (iblk V c 0 t) (iblk V c 1 t) (iblk V c 2 t) (iblk V c 3 t)
    ((cond1_iff t).2 h0) (fun e => hne ((cond2_iff t).1 e)) _)
  isplitl [H0]; · iexact H0
  isplitl [H1]; · iexact H1
  isplitl [H2]; · iexact H2
  isplitl [H3]; · iexact H3
  isplitl [H4]; · iexists _; iexact H4
  isplitl [H5]; · iexists _; iexact H5
  isplitl [G0]; · iexact G0
  isplitl [G1]; · iexact G1
  isplitl [G2]; · iexact G2
  iintro ⟨H0, H1, H2, H3, H4, H5, G0, G1, G2⟩
  subst ht
  isplitl [G0 G1 G2]
  · isplitl [G0]; · iexact G0
    isplitl [G1]; · iexact G1
    iexact G2
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound_mid (c : Dev nD) (t : Fin cfg0.N) (h0 : t.val ≠ 0) (h15 : t.val ≠ 15) :
    bodyPre V c t ⊢ wp frame (wpE (defs₀ (F := F)) Variants.none (c : Thread nD τ) none) Set.univ (bodyAt0 t) (fun _ => bodyPost V c t) := by
  unfold bodyPre bodyPost bodyAt0
  simp only [before0, before1, before2, before3]
  rw [show (dats V 0 c).Φ t.castSucc = ΦS V c t.val from rfl, show (dats V 0 c).Φ t.succ = ΦS V c (t.val + 1) from rfl,
    show (dats V 0 c).owesAt none t.succ = (dats V 0 c).owesAt none t.castSucc from rfl,
    (dats V 0 c).leavesExact_idle 5 t (by rw [idle5]; exact decide_eq_true h0) (by rw [flush5]; exact decide_eq_false h15),
    (dats V 0 c).leavesExact_idle 6 t (by rw [idle6]; exact decide_eq_true h15) (by rw [flush6]; exact decide_eq_false h15),
    after0, after1, after2, after3, after4, ΦS_pos V c (Nat.succ_ne_zero _), ΦS_pos V c h0, accAt_succ]
  iintro ⟨⟨G0, G1, G2⟩, Ho, ⟨%d0, H0⟩, ⟨%d1, H1⟩, ⟨%d2, H2⟩, ⟨%d3, H3⟩, ⟨%d4, H4⟩, H5, H6⟩
  iapply (body_mid c (grid0.coords t) _ _ _ _ _ _ _ _ _ _ _ _ _ _ (iblk V c 0 t) (iblk V c 1 t)
    (fun e => h0 ((cond1_iff t).1 e)) (fun e => h15 ((cond2_iff t).1 e)) (cbnB V c) (cbn2B V c) (accAt V c t.val) _)
  isplitl [H0]; · iexact H0
  isplitl [H1]; · iexact H1
  isplitl [H4]; · iexists _; iexact H4
  isplitl [G0]; · iexact G0
  isplitl [G1]; · iexact G1
  isplitl [G2]; · iexact G2
  iintro ⟨H0, H1, H4, G0, G1, G2⟩
  isplitl [G0 G1 G2]
  · isplitl [G0]; · iexact G0
    isplitl [G1]; · iexact G1
    iexact G2
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound_last (c : Dev nD) (t : Fin cfg0.N) (h15 : t.val = 15) :
    bodyPre V c t ⊢ wp frame (wpE (defs₀ (F := F)) Variants.none (c : Thread nD τ) none) Set.univ (bodyAt0 t) (fun _ => bodyPost V c t) := by
  have h0 : t.val ≠ 0 := by omega
  have hb5 : ∀ d, (dats V 0 c).before 5 t d = tabB V c := by
    have ht : t = (⟨14 + 1, lt_of_eq_of_lt h15.symm t.isLt⟩ : Fin cfg0.N) := Fin.ext h15
    intro d; rw [ht]; exact before5 V c d 14 _
  have hl : lossB V c = fun _ => k0_pay2 (accStep (xB V c t) (wiB V c t) (cbnB V c) (cbn2B V c) (accAt V c t.val)) := by
    unfold lossB; rw [← accAt_succ, h15]
  unfold bodyPre bodyPost bodyAt0
  simp only [before0, before1, before2, before3, hb5]
  rw [show (dats V 0 c).Φ t.castSucc = ΦS V c t.val from rfl, show (dats V 0 c).Φ t.succ = ΦS V c (t.val + 1) from rfl,
    show (dats V 0 c).owesAt none t.succ = (dats V 0 c).owesAt none t.castSucc from rfl,
    leaves_flushed V c 5 t (by rw [idle5]; exact decide_eq_true h0) (by rw [flush5]; exact decide_eq_true h15),
    leaves_busy V c 6 t (by rw [idle6, h15]; rfl),
    after0, after1, after2, after3, after4, after5, after6, ΦS_pos V c (Nat.succ_ne_zero _), ΦS_pos V c h0, accAt_succ, hl]
  iintro ⟨⟨G0, G1, G2⟩, Ho, ⟨%d0, H0⟩, ⟨%d1, H1⟩, ⟨%d2, H2⟩, ⟨%d3, H3⟩, ⟨%d4, H4⟩, ⟨%d5, H5⟩, ⟨%d6, H6⟩⟩
  iapply (body_last c (grid0.coords t) _ _ _ _ _ _ _ _ _ _ _ _ _ _ (iblk V c 0 t) (iblk V c 1 t)
    (fun e => h0 ((cond1_iff t).1 e)) ((cond2_iff t).2 h15) (cbnB V c) (cbn2B V c) (accAt V c t.val) _)
  isplitl [H0]; · iexact H0
  isplitl [H1]; · iexact H1
  isplitl [H4]; · iexists _; iexact H4
  isplitl [H6]; · iexists _; iexact H6
  isplitl [G0]; · iexact G0
  isplitl [G1]; · iexact G1
  isplitl [G2]; · iexact G2
  iintro ⟨H0, H1, H4, H6, G0, G1, G2⟩
  isplitl [G0 G1 G2]
  · isplitl [G0]; · iexact G0
    isplitl [G1]; · iexact G1
    iexact G2
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre V c t ⊢ wp frame (wpE (defs₀ (F := F)) Variants.none (c : Thread nD τ) none) Set.univ (bodyAt0 t) (fun _ => bodyPost V c t) := by
  by_cases h0 : t.val = 0
  · exact sound_first V c t h0
  by_cases h15 : t.val = 15
  · exact sound_last V c t h15
  exact sound_mid V c t h0 h15

/-- The body table's row at point `t`'s slots is the body there. -/
theorem defs₀_row (t : Fin cfg0.N) : defs₀ (F := F) .tc cfg0.body (cfg0.bodyArgs t (cfg0.slots t)) = bodyAt0 t := rfl

theorem body_obligation (c : Dev nD) : BodyObligation (dats V 0 c) (defs₀ (F := F)) Variants.none (none : HIx 1) Set.univ := fun t => by
  rw [bigSep_W0, bigSep_W0, defs₀_row]
  exact triple_restated (sound_body V c t) rfl .rfl fun _ => .rfl

end Cert.Proof.KI
-- ==== Proof.Region2I.lean ====
/-
  The TensorCore region as one step of the host program: from the unscoped buffers at a valuation to the same buffers
  with the region's three results in place, the core owing the SparseCore call's start throughout.
-/
module

public import proofs.«01_k».proof.Proof.RegionI
public import Idealize.ShloMosaic.Lib.Pipeline.Frame

@[expose] public section

set_option maxRecDepth 16384

noncomputable section

namespace Cert.Proof.KI

open Cert.KernelIdeal Cert.KernelIdeal.Gen

open Idealize.ShloMosaic Idealize.ShloMosaic.TcCoe
open Idealize.ShloMosaic.Pipeline (Dat BodyObligation BodyObligationLoose RegionSeg arrRefs ucRefs)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-! ## The buffers after the region -/

/-- The region's input arrays, read off a family of valuations. -/
abbrev Vof (U₀ : Dev nD → Valuation τ sig (Elt F)) (c : Dev nD) (b : Ref sig .tc) : Buf (Elt F) ((c.tc : Thread nD τ).loc b) := U₀ c (Proc.devRef .tc b)

/-- The buffers after the region: its three results, everything else as before. -/
def regionOut (U₀ : Dev nD → Valuation τ sig (Elt F)) (c : Dev nD) : Valuation τ sig (Elt F) :=
  Function.update (Function.update (Function.update (U₀ c)
    (Proc.devRef .tc main_v1_0) ((dats (Vof U₀) 0 c).arrAt 4 cfg0.N))
    (Proc.devRef .tc main_v1_1) ((dats (Vof U₀) 0 c).arrAt 5 cfg0.N))
    (Proc.devRef .tc main_v1_2) ((dats (Vof U₀) 0 c).arrAt 6 cfg0.N)

theorem regionOut_ne (U₀ : Dev nD → Valuation τ sig (Elt F)) (c : Dev nD) (b : Ref sig .tc)
    (h0 : b ≠ main_v1_0) (h1 : b ≠ main_v1_1) (h2 : b ≠ main_v1_2) :
    regionOut U₀ c (Proc.devRef .tc b) = U₀ c (Proc.devRef .tc b) := by
  unfold regionOut
  rw [Function.update_of_ne (StableHlo.devRef_ne_of_ne h2), Function.update_of_ne (StableHlo.devRef_ne_of_ne h1), Function.update_of_ne (StableHlo.devRef_ne_of_ne h0)]
theorem regionOut_0 (U₀ : Dev nD → Valuation τ sig (Elt F)) (c : Dev nD) :
    regionOut U₀ c (Proc.devRef .tc main_v1_0) = (dats (Vof U₀) 0 c).arrAt 4 cfg0.N := by
  unfold regionOut
  rw [Function.update_of_ne (StableHlo.devRef_ne_of_ne (by decide)), Function.update_of_ne (StableHlo.devRef_ne_of_ne (by decide)), Function.update_self]
theorem regionOut_1 (U₀ : Dev nD → Valuation τ sig (Elt F)) (c : Dev nD) :
    regionOut U₀ c (Proc.devRef .tc main_v1_1) = (dats (Vof U₀) 0 c).arrAt 5 cfg0.N := by
  unfold regionOut
  rw [Function.update_of_ne (StableHlo.devRef_ne_of_ne (by decide)), Function.update_self]
theorem regionOut_2 (U₀ : Dev nD → Valuation τ sig (Elt F)) (c : Dev nD) :
    regionOut U₀ c (Proc.devRef .tc main_v1_2) = (dats (Vof U₀) 0 c).arrAt 6 cfg0.N := by
  unfold regionOut
  rw [Function.update_self]

theorem arrAt_of_in (U₀ : Dev nD → Valuation τ sig (Elt F)) (c : Dev nD) (w : Fin cfg0.W) (hw : (cfg0.win w).isOut = false) (n : ℕ) :
    (dats (Vof U₀) 0 c).arrAt w n = U₀ c (Proc.devRef .tc (Pipeline.arrRef spec0 w)) :=
  ((dats (Vof U₀) 0 c).arrAt_in w hw n).trans (A_eq (Vof U₀) c w)

theorem regionOut_arr (U₀ : Dev nD → Valuation τ sig (Elt F)) (c : Dev nD) (w : Fin cfg0.W) :
    (dats (Vof U₀) 0 c).arrAt w cfg0.N = regionOut U₀ c (Proc.devRef .tc (Pipeline.arrRef spec0 w)) := by
  fin_cases w
  · exact (arrAt_of_in U₀ c 0 rfl _).trans (regionOut_ne U₀ c _ (by decide) (by decide) (by decide)).symm
  · exact (arrAt_of_in U₀ c 1 rfl _).trans (regionOut_ne U₀ c _ (by decide) (by decide) (by decide)).symm
  · exact (arrAt_of_in U₀ c 2 rfl _).trans (regionOut_ne U₀ c _ (by decide) (by decide) (by decide)).symm
  · exact (arrAt_of_in U₀ c 3 rfl _).trans (regionOut_ne U₀ c _ (by decide) (by decide) (by decide)).symm
  · exact (regionOut_0 U₀ c).symm
  · exact (regionOut_1 U₀ c).symm
  · exact (regionOut_2 U₀ c).symm

theorem regionOut_rest (U₀ : Dev nD → Valuation τ sig (Elt F)) (c : Dev nD) :
    ∀ b ∈ ucRefs τ sig \ arrRefs (τ := τ) spec0, U₀ c b = regionOut U₀ c b := by
  intro b hb
  have hn := (Finset.mem_sdiff.1 hb).2
  have hm : ∀ w, (Proc.devRef .tc (Pipeline.arrRef spec0 w) : DevRef τ sig) ∈ arrRefs (τ := τ) spec0 := fun w =>
    Finset.mem_map.2 ⟨_, Finset.mem_image.2 ⟨w, Finset.mem_univ _, rfl⟩, rfl⟩
  have h0 : b ≠ Proc.devRef .tc main_v1_0 := fun e => hn (e ▸ hm 4)
  have h1 : b ≠ Proc.devRef .tc main_v1_1 := fun e => hn (e ▸ hm 5)
  have h2 : b ≠ Proc.devRef .tc main_v1_2 := fun e => hn (e ▸ hm 6)
  unfold regionOut
  rw [Function.update_of_ne h2, Function.update_of_ne h1, Function.update_of_ne h0]

/-! ## The region as a segment -/

abbrev adm : (p : Fin 1) → (pcfgs (F := F) p).Adm := fun p => (cfgs p).toPCfg_adm

theorem Otc_none (d : Dev nD) (n : ℕ) (g : GSem nD τ sig) : (K (F := F)).Otc (N := 1) d n g none = 0 := by
  by_contra h
  have := SparseCore.Cfg.lev_of_Otc_pos (K := K (F := F)) (Nat.pos_of_ne_zero h)
  rw [SparseCore.Cfg.lev_none] at this
  omega

/-- What the core owes, its recorded waits all at the bottom level. -/
abbrev owesLow (c : Dev nD) : sProp 𝕄 :=
  iprop(∃ W, ⌜(K (F := F)).WBelow (SparseCore.T c) W 0⌝ ∗ owes (SparseCore.T c) ((K (F := F)).Otc c 0) W)

theorem owesLow_in (U₀ : Dev nD → Valuation τ sig (Elt F)) (c : Dev nD) : owesLow (F := F) c ⊢ (dats (Vof U₀) 0 c).owesAt none 0 := by
  unfold Dat.owesAt Pipeline.owesWithin Dat.bound
  iintro ⟨%W, %hW, HO⟩
  iexists W; isplitr
  · ipureintro; exact fun p hp => Or.inl (hW p hp)
  iexact HO

theorem owesLow_out (U₀ : Dev nD → Valuation τ sig (Elt F)) (c : Dev nD) : (dats (Vof U₀) 0 c).owesAt none (Fin.last cfg0.N) ⊢ owesLow (F := F) c := by
  unfold Dat.owesAt Pipeline.owesWithin Dat.bound
  iintro ⟨%W, %hW, HO⟩
  iexists W; isplitr
  · ipureintro
    intro p hp
    rcases hW hp with h | ⟨w, s, h⟩
    · exact h
    · subst h; exact le_rfl
  iexact HO

theorem scratch_in (U₀ : Dev nD → Valuation τ sig (Elt F)) (c : Dev nD) :
    (Pipeline.scopedRest spec0 c : sProp 𝕄) ⊢ (dats (Vof U₀) 0 c).Φ 0 := by
  show _ ⊢ ΦS (Vof U₀) c 0
  rw [ΦS_zero, scopedRest0_eq]
  iintro ⟨⟨%f0, H0⟩, ⟨%f1, H1⟩, %f2, H2⟩
  isplitl [H0]
  · iexists f0; iapply (Entails.of_eq (owns_whole (c : Thread nD τ) cc0_scratch0 fullShare f0).symm); iexact H0
  isplitl [H1]
  · iexists f1; iapply (Entails.of_eq (owns_whole (c : Thread nD τ) cc0_scratch1 fullShare f1).symm); iexact H1
  iexists (show S2.Idx → Elt F .f32 from f2) (ix1 (0 : Fin 2))
  unfold accPts
  iexists f2; isplitr
  · ipureintro; rfl
  iexact H2

theorem scratch_out (U₀ : Dev nD → Valuation τ sig (Elt F)) (c : Dev nD) :
    (dats (Vof U₀) 0 c).Φ (Fin.last cfg0.N) ⊢ (Pipeline.scopedRest spec0 c : sProp 𝕄) := by
  show ΦS (Vof U₀) c 16 ⊢ _
  rw [ΦS_pos _ _ (by decide), scopedRest0_eq]
  unfold accPts
  iintro ⟨H0, H1, %f2, -, H2⟩
  isplitl [H0]
  · iexists cbnB (Vof U₀) c; iapply (Entails.of_eq (owns_whole (c : Thread nD τ) cc0_scratch0 fullShare _)); iexact H0
  isplitl [H1]
  · iexists cbn2B (Vof U₀) c; iapply (Entails.of_eq (owns_whole (c : Thread nD τ) cc0_scratch1 fullShare _)); iexact H1
  iexists f2; iexact H2

def regionSeg (U₀ : Dev nD → Valuation τ sig (Elt F)) :
    RegionSeg (pcfgs (F := F)) adm (fun p c => dats (Vof U₀) p c) (none : HIx 1) (defs₀ (F := F)) Variants.none (K (F := F)).L (K (F := F)).lev 0 where
  win := winFacts0.to₀
  block_pos := block_pos0
  stage_whole := stage_whole0
  K := PEmpty
  osem k := k.elim
  ho := Pipeline.OwnSemFacts.none _
  hbody c := (body_obligation (Vof U₀) c).loose
  hwaits c := Pipeline.cellsWaits_intro (Pipeline.pin pcfgs adm) (fun p c => dats (Vof U₀) p c) none 0 c fun w s t =>
    (K (F := F)).mayWait_none _ (Otc_none c 0)
  pre c := iprop(StableHlo.held (c.tc : Thread nD τ) (ucRefs τ sig) (U₀ c) ∗ owesLow c)
  post c := iprop(StableHlo.held (c.tc : Thread nD τ) (ucRefs τ sig) (regionOut U₀ c) ∗ owesLow c)
  X _ := iprop(emp)
  Y _ := iprop(emp)
  Z c := StableHlo.held (c.tc : Thread nD τ) (ucRefs τ sig \ arrRefs spec0) (U₀ c)
  hentry c := by
    rw [Pipeline.ownSems0_none, Pipeline.prefHeld_of_none _ rfl]
    rw [Pipeline.arrays_held pcfgs adm (fun p c => dats (Vof U₀) p c) 0 (launch0.toP) c ((dats (Vof U₀) 0 c).share_full fun _ => rfl)
      (fun w => (dats (Vof U₀) 0 c).arrAt w 0) (U₀ c)
      (fun w => A_eq (Vof U₀) c w)]
    rw [StableHlo.held_sub_split (c.tc : Thread nD τ) (Pipeline.arrRefs_sub_ucRefs spec0 winFacts0.arr_unscoped) (U₀ c)]
    iintro ⟨⟨⟨Ha, HZ⟩, HO⟩, -, -⟩
    imodintro
    isplitl [Ha]; · iexact Ha
    isplitr; · iempintro
    isplitl [HO]; · iapply (owesLow_in U₀ c); iexact HO
    isplitr; · iempintro
    iexact HZ
  hin c := by
    rw [Pipeline.prefHeld_of_none _ rfl]
    iintro ⟨-, -, H⟩
    iapply (scratch_in U₀ c); iexact H
  hout c := by
    rw [Pipeline.ownSems0_none]
    iintro H
    isplitr; · iempintro
    isplitr; · iempintro
    iapply (scratch_out U₀ c); iexact H
  hexit c := by
    rw [Pipeline.arrays_held pcfgs adm (fun p c => dats (Vof U₀) p c) 0 (launch0.toP) c ((dats (Vof U₀) 0 c).share_full fun _ => rfl)
      (fun w => (dats (Vof U₀) 0 c).arrAt w cfg0.N) (regionOut U₀ c)
      (fun w => regionOut_arr U₀ c w)]
    rw [StableHlo.held_congr (c.tc : Thread nD τ) (regionOut_rest U₀ c)]
    rw [StableHlo.held_sub_split (c.tc : Thread nD τ) (Pipeline.arrRefs_sub_ucRefs spec0 winFacts0.arr_unscoped) (regionOut U₀ c)]
    iintro ⟨Ha, HO, -, HZ⟩
    imodintro
    isplitl [Ha HZ]
    · isplitl [Ha]; · iexact Ha
      iexact HZ
    iapply (owesLow_out U₀ c); iexact HO

theorem regionSeg_pre (U₀ : Dev nD → Valuation τ sig (Elt F)) (c : Dev nD) :
    (regionSeg U₀).pre c = iprop(StableHlo.held (c.tc : Thread nD τ) (ucRefs τ sig) (U₀ c) ∗ owesLow c) := rfl
theorem regionSeg_post (U₀ : Dev nD → Valuation τ sig (Elt F)) (c : Dev nD) :
    (regionSeg U₀).post c = iprop(StableHlo.held (c.tc : Thread nD τ) (ucRefs τ sig) (regionOut U₀ c) ∗ owesLow c) := rfl

theorem phinj : Function.Injective (Pipeline.cellOf (nD := nD) (τ := τ) (Pipeline.pin (pcfgs (F := F)) adm)) := cellOf_inj

/-- The launch's ghost state for the region's staging cells on core `c`. -/
def ghostR (c : Dev nD) : sProp 𝕄 :=
  iprop(Pipeline.cellsGhost (Pipeline.pin (pcfgs (F := F)) adm) EP 0 c ∗ Pipeline.toksInit (Pipeline.pin (pcfgs (F := F)) adm) EP 0 c)

/-- The region's call under the certificate's own body table. -/
theorem region_wp₀ [∀ e, Nonempty (Elt F e)] (U₀ : Dev nD → Valuation τ sig (Elt F)) (c : Dev nD) (Q : PUnit → sProp 𝕄) :
    iprop((iprop(boundary (SparseCore.T c) ∗ StableHlo.held (c.tc : Thread nD τ) (ucRefs τ sig) (regionOut U₀ c) ∗ owesLow c) -∗ Q ⟨⟩)
      ∗ boundary (SparseCore.T c) ∗ iprop(StableHlo.held (c.tc : Thread nD τ) (ucRefs τ sig) (U₀ c) ∗ owesLow c) ∗ levAts (K (F := F)).L (K (F := F)).lev
      ∗ ghostR c)
    ⊢ wp frame (wpE (Pipeline.defs pcfgs (defs₀ (F := F))) (Variants.none.lift) (SparseCore.T c) none) Set.univ
        (.op (.customCall (Pipeline.entry 0) ()) .ret) Q := by
  refine BI.Entails.trans ?_ (RegionSeg.wp pcfgs adm (fun p c => dats (Vof U₀) p c) (none : HIx 1) phinj EP (defs₀ (F := F)) Variants.none
    (K (F := F)).L (K (F := F)).lev (regionSeg U₀) c none (fun _ h => nomatch h) .ret Q)
  unfold ghostR
  show (_ : sProp 𝕄) ⊢ (_ : sProp 𝕄)
  rw [regionSeg_pre, regionSeg_post]
  iintro ⟨Hk, Hb, Hp, Hl, Hg, Ht⟩
  isplitl [Hk]
  · iintro H
    rw [wp_ret]
    imodintro
    iapply Hk; iexact H
  isplitl [Hb]; · iexact Hb
  isplitl [Hp]; · iexact Hp
  isplitl [Hl]; · iexact Hl
  isplitl [Hg]; · iexact Hg
  iexact Ht

/-- The same as @main runs it under the SparseCore launch. -/
theorem region_wp [∀ e, Nonempty (Elt F e)] (U₀ : Dev nD → Valuation τ sig (Elt F)) (c : Dev nD) (Q : PUnit → sProp 𝕄) :
    iprop((iprop(boundary (SparseCore.T c) ∗ StableHlo.held (c.tc : Thread nD τ) (ucRefs τ sig) (regionOut U₀ c) ∗ owesLow c) -∗ Q ⟨⟩)
      ∗ boundary (SparseCore.T c) ∗ iprop(StableHlo.held (c.tc : Thread nD τ) (ucRefs τ sig) (U₀ c) ∗ owesLow c) ∗ levAts (K (F := F)).L (K (F := F)).lev
      ∗ ghostR c)
    ⊢ wp frame (wpE ((K (F := F)).defs (Pipeline.defs pcfgs (defs₀ (F := F)))) (Variants.none.lift) (SparseCore.T c) none) Set.univ
        (Prog.lift (.customCall (SparseCore.inner (Pipeline.entry 0)) ())) Q :=
  (region_wp₀ U₀ c Q).trans ((K (F := F)).wp_liftProg (Pipeline.defs pcfgs (defs₀ (F := F))) (Variants.none.lift) (SparseCore.T c) Set.univ none
    (.op (.customCall (Pipeline.entry 0) ()) .ret) Q)

end Cert.Proof.KI
-- ==== Proof.ViewsI.lean ====
/-
  The views of the SparseCore task and what they read and write. Stream `(j, c)` of a task gathers, for list `j` of the
  task, columns `128 c, …, 128 c + 127` of the table's rows; the six streams fill the row scratch, whose two planes go
  out to the task's two blocks of the output.
-/
module

public import proofs.«01_k».proof.Proof.SetupI

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The streams' views -/

theorem src_inb (c : Fin 3) : ∀ a, (![0, 128 * c.val] : Fin 2 → Nat) a + S1024x128.size a ≤ S1024x384.size a := by
  intro a; match a with
  | 0 => show 0 + 1024 ≤ 1024; omega
  | 1 => show 128 * c.val + 128 ≤ 384; omega
theorem lst_inb (j : Fin 2) : ∀ a, (![j.val, 0] : Fin 2 → Nat) a + S1x128.size a ≤ S2x128.size a := by
  intro a; match a with
  | 0 => show j.val + 1 ≤ 2; omega
  | 1 => show 0 + 128 ≤ 128; omega
theorem dst_inb (j : Fin 2) (c : Fin 3) : ∀ a, (![j.val, 0, 128 * c.val] : Fin 3 → Nat) a + S1x128x128.size a ≤ S2x128x384.size a := by
  intro a; match a with
  | 0 => show j.val + 1 ≤ 2; omega
  | 1 => show 0 + 128 ≤ 128; omega
  | 2 => show 128 * c.val + 128 ≤ 384; omega
theorem blk_inb (j : Fin 2) : ∀ a, (![j.val, 0, 0] : Fin 3 → Nat) a + S1x128x384.size a ≤ S2x128x384.size a := by
  intro a; match a with
  | 0 => show j.val + 1 ≤ 2; omega
  | 1 => show 0 + 128 ≤ 128; omega
  | 2 => show 0 + 384 ≤ 384; omega

/-- Column block `c` of the table, -/
abbrev srcV (c : Fin 3) : Memref sig .scVector .hbm S1024x128 .f32 :=
  (tV).slice (Rect.unit (s := S1024x384) ![0, 128 * c.val] S1024x128.size (src_inb c)) (fun _ => rfl)
/-- list `j` of the index scratch, -/
abbrev lstV (j : Fin 2) : Memref sig .scVector .vmem S128 .i32 :=
  ((sV).slice (Rect.unit (s := S2x128) ![j.val, 0] S1x128.size (lst_inb j)) (fun _ => rfl)).squeeze S128 squeezes_S1x128_S128
/-- where stream `(j, c)` lands in the row scratch, -/
abbrev dstV (j : Fin 2) (c : Fin 3) : Memref sig .scVector .vmem S128x128 .f32 :=
  ((rV).slice (Rect.unit (s := S2x128x384) ![j.val, 0, 128 * c.val] S1x128x128.size (dst_inb j c)) (fun _ => rfl)).squeeze S128x128 squeezes_S1x128x128_S128x128
/-- and plane `j` of the row scratch. -/
abbrev blkV (j : Fin 2) : Memref sig .scVector .vmem S128x384 .f32 :=
  ((rV).slice (Rect.unit (s := S2x128x384) ![j.val, 0, 0] S1x128x384.size (blk_inb j)) (fun _ => rfl)).squeeze S128x384 squeezes_S1x128x384_S128x384

/-- The task's list, as the task addresses it, -/
abbrev lRowK (L : grid1.Coords) : Memref sig .scVector .hbm S2x128 .i32 :=
  ((lV).slice (Rect.unit (s := S32x2x128) (k1_off1 L) S1x2x128.size (k1_off1_inb L)) (fun _ => rfl)).squeeze S2x128 squeezes_S1x2x128_S2x128
/-- and its `j`-th block of the output. -/
abbrev oBlkK (L : grid1.Coords) (j : Fin 2) : Memref sig .scVector .hbm S128x384 .f32 :=
  (oV).slice (Rect.unit (s := S8192x384) (k1_off2 L (BitVec.ofNat 32 (128 * j.val))) S128x384.size (k1_off2_inb L j)) (fun _ => rfl)

theorem bound_zero : grid1.bound 0 = 2 := rfl
theorem bound_one : grid1.bound 1 = 16 := rfl
/-- The task's SparseCore and tile. -/
abbrev cL (L : grid1.Coords) : Fin 2 := Fin.cast bound_zero (L 0)
abbrev iL (L : grid1.Coords) : Fin 16 := Fin.cast bound_one (L 1)

theorem lrect_eq (L : grid1.Coords) : Rect.unit (s := S32x2x128) (k1_off1 L) S1x2x128.size (k1_off1_inb L) = lrow (taskNo (cL L) (iL L)) := by
  unfold lrow Rect.part Rect.block
  congr 1 <;> funext a
  · rw [k1_off1_eq]
    match a with
    | 0 => simp [Shape.partIx, Shape.partSize, taskNo]
    | 1 => simp [Shape.partIx, Shape.partSize]
    | 2 => simp [Shape.partIx, Shape.partSize]
  · match a with
    | 0 => simp [Shape.partSize]
    | 1 => simp [Shape.partSize]
    | 2 => simp [Shape.partSize]
theorem orect_eq (L : grid1.Coords) (j : Fin 2) :
    Rect.unit (s := S8192x384) (k1_off2 L (BitVec.ofNat 32 (128 * j.val))) S128x384.size (k1_off2_inb L j) = orow (blkNo (cL L) (iL L) j) := by
  unfold orow Rect.part Rect.block
  congr 1 <;> funext a
  · rw [k1_off2_eq]
    match a with
    | 0 => simp [Shape.partIx, Shape.partSize, blkNo]; omega
    | 1 => simp [Shape.partIx, Shape.partSize]
  · match a with
    | 0 => simp [Shape.partSize]
    | 1 => simp [Shape.partSize]

theorem set_lRowK (L : grid1.Coords) : (lRowK L).view.set = lRowSet (taskNo (cL L) (iL L)) := by
  show (((lV).view.slice (Rect.unit (s := S32x2x128) (k1_off1 L) S1x2x128.size (k1_off1_inb L))).reshape S2x128 squeezes_S1x2x128_S2x128.numel_eq).set
    = ((lV).view.slice (lrow (taskNo (cL L) (iL L)))).set
  rw [View.set_reshape]
  exact lrect_eq L ▸ rfl
theorem set_oBlkK (L : grid1.Coords) (j : Fin 2) : (oBlkK L j).view.set = oRowSet (blkNo (cL L) (iL L) j) := by
  show ((oV).view.slice (Rect.unit (s := S8192x384) (k1_off2 L (BitVec.ofNat 32 (128 * j.val))) S128x384.size (k1_off2_inb L j))).set
    = ((oV).view.slice (orow (blkNo (cL L) (iL L) j))).set
  exact orect_eq L j ▸ rfl

/-! ## Where the views' indices sit -/

theorem emb_srcV (c : Fin 3) (y : S1024x128.Idx) :
    (srcV c).view.emb y = (ix2 (y 0) ⟨128 * c.val + (y 1).val, by have : (y 1).val < 128 := (y 1).isLt; omega⟩ : S1024x384.Idx) := by
  funext a; refine Fin.ext ?_
  match a with
  | 0 => show 0 + 1 * (y 0).val = (y 0).val; omega
  | 1 => show 128 * c.val + 1 * (y 1).val = 128 * c.val + (y 1).val; omega

theorem emb_lstV (j : Fin 2) (r : Fin 128) : (lstV j).view.emb (ix1 r) = (ix2 j r : S2x128.Idx) := by
  have h : Shape.reshapeEquiv (s := S1x128) (s' := S128) squeezes_S1x128_S128.numel_eq (ix1 r) = ix2 (0 : Fin 1) r :=
    Shape.reshapeEquiv_eq_of_rowMajor _ (by
      rw [Shape.rowMajor_val_two, Shape.rowMajor_val_one]
      show 0 * 128 + r.val = r.val
      omega)
  show ((Rect.unit (s := S2x128) ![j.val, 0] S1x128.size (lst_inb j)).emb (Shape.reshapeEquiv (s := S1x128) (s' := S128) squeezes_S1x128_S128.numel_eq (ix1 r))) = _
  rw [h]
  funext a; refine Fin.ext ?_
  match a with
  | 0 => show j.val + 1 * 0 = j.val; omega
  | 1 => show 0 + 1 * r.val = r.val; omega

theorem emb_dstV (j : Fin 2) (c : Fin 3) (r k : Fin 128) :
    (dstV j c).view.emb (ix2 r k) = (ix3 j r ⟨128 * c.val + k.val, by omega⟩ : S2x128x384.Idx) := by
  show ((Rect.unit (s := S2x128x384) ![j.val, 0, 128 * c.val] S1x128x128.size (dst_inb j c)).emb
    (Shape.reshapeEquiv (s := S1x128x128) (s' := S128x128) squeezes_S1x128x128_S128x128.numel_eq (ix2 r k))) = _
  rw [reshapeEquiv_ix2_1ab]
  funext a; refine Fin.ext ?_
  match a with
  | 0 => show j.val + 1 * 0 = j.val; omega
  | 1 => show 0 + 1 * r.val = r.val; omega
  | 2 => show 128 * c.val + 1 * k.val = 128 * c.val + k.val; omega

theorem emb_blkV (j : Fin 2) (r : Fin 128) (k : Fin 384) : (blkV j).view.emb (ix2 r k) = (ix3 j r k : S2x128x384.Idx) := by
  show ((Rect.unit (s := S2x128x384) ![j.val, 0, 0] S1x128x384.size (blk_inb j)).emb
    (Shape.reshapeEquiv (s := S1x128x384) (s' := S128x384) squeezes_S1x128x384_S128x384.numel_eq (ix2 r k))) = _
  rw [reshapeEquiv_ix2_1ab]
  funext a; refine Fin.ext ?_
  match a with
  | 0 => show j.val + 1 * 0 = j.val; omega
  | 1 => show 0 + 1 * r.val = r.val; omega
  | 2 => show 0 + 1 * k.val = k.val; omega

theorem emb_lRowK (L : grid1.Coords) (j : Fin 2) (r : Fin 128) :
    (lRowK L).view.emb (ix2 j r) = (ix3 (taskNo (cL L) (iL L)) j r : S32x2x128.Idx) := by
  show ((Rect.unit (s := S32x2x128) (k1_off1 L) S1x2x128.size (k1_off1_inb L)).emb
    (Shape.reshapeEquiv (s := S1x2x128) (s' := S2x128) squeezes_S1x2x128_S2x128.numel_eq (ix2 j r))) = _
  rw [reshapeEquiv_ix2_1ab]
  have ho := k1_off1_eq L
  funext a; refine Fin.ext ?_
  match a with
  | 0 =>
    show k1_off1 L 0 + 1 * 0 = 2 * (L 1).val + (L 0).val
    rw [ho]; rfl
  | 1 =>
    show k1_off1 L 1 + 1 * j.val = j.val
    rw [ho]; show 0 + 1 * j.val = j.val; omega
  | 2 =>
    show k1_off1 L 2 + 1 * r.val = r.val
    rw [ho]; show 0 + 1 * r.val = r.val; omega

theorem emb_oBlkK (L : grid1.Coords) (j : Fin 2) (r : Fin 128) (k : Fin 384) :
    (oBlkK L j).view.emb (ix2 r k)
      = (ix2 (⟨512 * (L 1).val + 256 * (L 0).val + 128 * j.val + r.val, by
          have h0 : (L 0).val < 2 := (L 0).isLt
          have h1 : (L 1).val < 16 := (L 1).isLt
          omega⟩ : Fin 8192) k : S8192x384.Idx) := by
  have ho := k1_off2_eq L j
  funext a; refine Fin.ext ?_
  match a with
  | 0 =>
    show k1_off2 L (BitVec.ofNat 32 (128 * j.val)) 0 + 1 * r.val = _
    rw [ho]; show 512 * (L 1).val + 256 * (L 0).val + 128 * j.val + 1 * r.val = 512 * (L 1).val + 256 * (L 0).val + 128 * j.val + r.val; omega
  | 1 =>
    show k1_off2 L (BitVec.ofNat 32 (128 * j.val)) 1 + 1 * k.val = k.val
    rw [ho]; show 0 + 1 * k.val = k.val; omega

/-! ## The values -/

/-- The row scratch once every stream has landed. -/
def rowsAll (ft : S1024x384.Idx → Elt F .f32) (fo : S2x128.Idx → BitVec 32) : S2x128x384.Idx → Elt F .f32 := fun x =>
  ft (ix2 (⟨(fo (ix2 (x 0) (x 1))).toNat % 1024, by omega⟩ : Fin 1024) (x 2))

/-- The task's list as it lies in the index scratch. -/
abbrev lstOf (L : grid1.Coords) (fl : S32x2x128.Idx → BitVec 32) : S2x128.Idx → BitVec 32 := (lRowK L).view.read (Elt F) fl

theorem lstOf_apply (L : grid1.Coords) (fl : S32x2x128.Idx → BitVec 32) (j : Fin 2) (r : Fin 128) :
    lstOf (F := F) L fl (ix2 j r) = fl (ix3 (taskNo (cL L) (iL L)) j r) :=
  congrArg fl (emb_lRowK L j r)

theorem lstOf_lt (L : grid1.Coords) (fl : S32x2x128.Idx → BitVec 32) (h : ∀ x, (fl x).toNat < 1024) (x : S2x128.Idx) : (lstOf (F := F) L fl x).toNat < 1024 :=
  h ((lRowK L).view.emb x)

theorem list_in (j : Fin 2) (fo : S2x128.Idx → BitVec 32) (h : ∀ x, (fo x).toNat < 1024) :
    ∀ x, ((lstV j).view.read (Elt F) fo x).toNat < S1024x128.size gathers_S1024x128_S128x128.axis :=
  fun x => h ((lstV j).view.emb x)

/-- What stream `(j, c)` writes is the row scratch's final contents there. -/
theorem stream_value (j : Fin 2) (c : Fin 3) (ft : S1024x384.Idx → Elt F .f32) (fd : S2x128x384.Idx → Elt F .f32) (fo : S2x128.Idx → BitVec 32)
    (hin : ∀ x, ((lstV j).view.read (Elt F) fo x).toNat < S1024x128.size gathers_S1024x128_S128x128.axis) (x : S2x128x384.Idx) (hx : x ∈ (dstV j c).view.set) :
    View.write (Elt F) (dstV j c).view fd (SparseCore.gatherPayload gathers_S1024x128_S128x128 ((srcV c).view.read (Elt F) ft)
      (SparseCore.rows ((lstV j).view.read (Elt F) fo) rfl hin)) Finset.univ x = rowsAll ft fo x := by
  obtain ⟨y, -, rfl⟩ := Finset.mem_map.mp hx
  rw [View.write_emb_of_mem _ _ (Finset.mem_univ y)]
  obtain ⟨r, k, rfl⟩ : ∃ (r k : Fin 128), y = ix2 r k := ⟨y 0, y 1, by funext a; match a with | 0 => rfl | 1 => rfl⟩
  have hlist : (lstV j).view.read (Elt F) fo (S128.rowMajor.symm ((r : Fin 128).cast (rfl : (128 : ℕ) = S128.numel))) = fo (ix2 j r) := by
    have e : S128.rowMajor.symm ((r : Fin 128).cast (rfl : (128 : ℕ) = S128.numel)) = (ix1 r : S128.Idx) := by
      rw [Equiv.symm_apply_eq]; refine Fin.ext ?_; rw [Shape.rowMajor_val_one]; rfl
    rw [e]; exact congrArg fo (emb_lstV j r)
  have hrow : (fo (ix2 j r)).toNat < 1024 := by rw [← hlist]; exact hin _
  show ft ((srcV c).view.emb (gathers_S1024x128_S128x128.idx (SparseCore.rows ((lstV j).view.read (Elt F) fo) rfl hin) (ix2 r k))) = _
  rw [emb_srcV, emb_dstV]
  unfold rowsAll
  refine congrArg ft (funext fun a => Fin.ext ?_)
  match a with
  | 0 =>
    show (gathers_S1024x128_S128x128.idx (SparseCore.rows ((lstV j).view.read (Elt F) fo) rfl hin) (ix2 r k) 0).val = (fo (ix2 j r)).toNat % 1024
    rw [Nat.mod_eq_of_lt hrow, ← hlist]
    rfl
  | 1 => rfl

/-- What the copy-out writes to the task's block `j` is the output there. -/
theorem out_value (L : grid1.Coords) (j : Fin 2) (ft : S1024x384.Idx → Elt F .f32) (fl : S32x2x128.Idx → BitVec 32) (fo : S8192x384.Idx → Elt F .f32)
    (x : S8192x384.Idx) (hx : x ∈ (oBlkK L j).view.set) :
    View.write (Elt F) (oBlkK L j).view fo ((blkV j).view.read (Elt F) (rowsAll ft (lstOf (F := F) L fl))) Finset.univ x = gathered ft fl x := by
  obtain ⟨y, -, rfl⟩ := Finset.mem_map.mp hx
  rw [View.write_emb_of_mem _ _ (Finset.mem_univ y)]
  obtain ⟨r, k, rfl⟩ : ∃ (r : Fin 128) (k : Fin 384), y = ix2 r k := ⟨y 0, y 1, by funext a; match a with | 0 => rfl | 1 => rfl⟩
  show rowsAll ft (lstOf (F := F) L fl) ((blkV j).view.emb (ix2 r k)) = _
  rw [emb_blkV, emb_oBlkK]
  unfold rowsAll gathered
  show ft (ix2 (⟨(lstOf (F := F) L fl (ix2 j r)).toNat % 1024, _⟩ : Fin 1024) k) = _
  have h0 : (L 0).val < 2 := (L 0).isLt
  have h1 : (L 1).val < 16 := (L 1).isLt
  have e : (ix3 (taskNo (cL L) (iL L)) j r : S32x2x128.Idx)
      = ix3 (⟨(512 * (L 1).val + 256 * (L 0).val + 128 * j.val + r.val) / 256, by omega⟩ : Fin 32)
          (⟨(512 * (L 1).val + 256 * (L 0).val + 128 * j.val + r.val) / 128 % 2, by omega⟩ : Fin 2)
          (⟨(512 * (L 1).val + 256 * (L 0).val + 128 * j.val + r.val) % 128, by omega⟩ : Fin 128) := by
    funext a; refine Fin.ext ?_
    match a with
    | 0 => show 2 * (L 1).val + (L 0).val = (512 * (L 1).val + 256 * (L 0).val + 128 * j.val + r.val) / 256; omega
    | 1 => show j.val = (512 * (L 1).val + 256 * (L 0).val + 128 * j.val + r.val) / 128 % 2; omega
    | 2 => show r.val = (512 * (L 1).val + 256 * (L 0).val + 128 * j.val + r.val) % 128; omega
  refine congrArg ft (funext fun a => Fin.ext ?_)
  match a with
  | 0 => show (lstOf (F := F) L fl (ix2 j r)).toNat % 1024 = _; rw [lstOf_apply, e]
  | 1 => rfl

/-! ## The six windows of the row scratch -/

/-- Window `(j, c)`'s elements. -/
def dSet (p : Fin 2 × Fin 3) : Finset S2x128x384.Idx := (dstV p.1 p.2).view.set

theorem mem_dSet (x : S2x128x384.Idx) : ∃ p : Fin 2 × Fin 3, x ∈ dSet p := by
  have h2 : (x 2).val < 384 := (x 2).isLt
  have hc : (x 2).val / 128 < 3 := by omega
  have hk : (x 2).val % 128 < 128 := by omega
  refine ⟨(x 0, ⟨(x 2).val / 128, hc⟩), Finset.mem_map.mpr ⟨ix2 (x 1) (⟨(x 2).val % 128, hk⟩ : Fin 128), Finset.mem_univ _, ?_⟩⟩
  refine (emb_dstV (x 0) ⟨(x 2).val / 128, hc⟩ (x 1) ⟨(x 2).val % 128, hk⟩).trans ?_
  funext a; refine Fin.ext ?_
  match a with
  | 0 => rfl
  | 1 => rfl
  | 2 => show 128 * ((x 2).val / 128) + (x 2).val % 128 = (x 2).val; omega

theorem dst_cover : (Finset.univ : Finset (Fin 2 × Fin 3)).biUnion dSet = (Finset.univ : Finset S2x128x384.Idx) :=
  Finset.eq_univ_of_forall fun x => (mem_dSet x).elim fun p hp => Finset.mem_biUnion.mpr ⟨p, Finset.mem_univ _, hp⟩

theorem dst_disjoint (p q : Fin 2 × Fin 3) (h : p ≠ q) : Disjoint (dSet p) (dSet q) := by
  refine Finset.disjoint_left.mpr fun x hx hy => h ?_
  obtain ⟨y, -, rfl⟩ := Finset.mem_map.mp hx
  obtain ⟨z, -, e⟩ := Finset.mem_map.mp hy
  obtain ⟨r, k, rfl⟩ : ∃ (r k : Fin 128), y = ix2 r k := ⟨y 0, y 1, by funext a; match a with | 0 => rfl | 1 => rfl⟩
  obtain ⟨r', k', rfl⟩ : ∃ (r k : Fin 128), z = ix2 r k := ⟨z 0, z 1, by funext a; match a with | 0 => rfl | 1 => rfl⟩
  rw [emb_dstV, emb_dstV] at e
  have e0 : q.1.val = p.1.val := congrArg (fun f : S2x128x384.Idx => (f 0).val) e
  have e2 : 128 * q.2.val + k'.val = 128 * p.2.val + k.val := congrArg (fun f : S2x128x384.Idx => (f 2).val) e
  exact Prod.ext (Fin.ext e0.symm) (Fin.ext (by omega))

end Cert.Proof.KI
-- ==== Proof.TileI.lean ====
/-
  One task of the SparseCore call, at a symbolic SparseCore and tile: the fetch of its list, six indirect gathers
  outstanding on one semaphore as one counted batch of `6 · 128` rows, their six waits, and the two copies out. The task
  ends with its two blocks of the output at the gathered rows (`gathered`).
-/
module

public import proofs.«01_k».proof.Proof.ViewsI

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

section Tile

variable (d : Dev nD) (L : grid1.Coords)

abbrev cV (L : grid1.Coords) : Fin τ.nSC := (L 0).castLE hcore1
abbrev jV (L : grid1.Coords) : Fin τ.nSub := (L 1).castLE hsub1
/-- The task's thread. -/
abbrev thr (d : Dev nD) (L : grid1.Coords) : Thread nD τ := V d (cV L) (jV L)

/-! ## The views' holdings are the buffers' -/

theorem pts_lRowK (f : S32x2x128.Idx → BitVec 32) :
    ((lRowK L).view.loc (thr d L) ↦[(lRowK L).view.set]{fullShare} f : sProp 𝕄) = lPts d (taskNo (cL L) (iL L)) f := by
  rw [set_lRowK]
theorem pts_oBlkK (j : Fin 2) (f : S8192x384.Idx → Elt F .f32) :
    ((oBlkK L j).view.loc (thr d L) ↦[(oBlkK L j).view.set]{fullShare} f : sProp 𝕄) = oPts d (blkNo (cL L) (iL L) j) f := by
  rw [set_oBlkK]
theorem pts_tV (q : PosShare TreeShare) (f : S1024x384.Idx → Elt F .f32) :
    ((tV).view.loc (thr d L) ↦{q} f : sProp 𝕄) = tPts d q f := rfl
theorem pts_sV (f : S2x128.Idx → BitVec 32) :
    ((sV).view.loc (thr d L) ↦{fullShare} f : sProp 𝕄) = (thr d L).loc cc1_scratch0 ↦{fullShare} f := rfl
theorem pts_rV (f : S2x128x384.Idx → Elt F .f32) :
    ((rV).view.loc (thr d L) ↦{fullShare} f : sProp 𝕄) = (thr d L).loc cc1_scratch1 ↦{fullShare} f := rfl

/-! ## The task's own semaphores and buffers -/

abbrev c0cell : GSem nD τ sig := (thr d L, .dma cc1_scratch2.sem)
abbrev c1cell : GSem nD τ sig := (thr d L, .dma cc1_scoped0.sem)
abbrev c2cell : GSem nD τ sig := (thr d L, .dma cc1_scoped1.sem)
abbrev c3cell : GSem nD τ sig := (thr d L, .dma cc1_scoped2.sem)

theorem mem_own (sm : SemLoc sig) (h : sm.isScoped .scVector = true) : ((thr d L, sm) : GSem nD τ sig) ∈ ownCells (thr d L) :=
  mem_ownCells.mpr ⟨rfl, h⟩

theorem ownSems0_V :
    (ownSems0 (thr d L) : sProp 𝕄)
      = iprop(semVal (c0cell d L) 0 ∗ semVal (c1cell d L) 0 ∗ semVal (c2cell d L) 0 ∗ semVal (c3cell d L) 0
          ∗ bigSep (((((ownCells (thr d L)).erase (c0cell d L)).erase (c1cell d L)).erase (c2cell d L)).erase (c3cell d L)) fun g => semVal g 0) := by
  unfold SparseCore.Cfg.ownSems0
  have ne {a b : SemLoc sig} (h : a ≠ b) : ((thr d L, a) : GSem nD τ sig) ≠ (thr d L, b) := fun e => h (Prod.mk.inj e).2
  rw [SparseCore.bigSep_erase' (mem_own d L (.dma cc1_scratch2.sem) (by decide)),
    SparseCore.bigSep_erase' (Finset.mem_erase.mpr ⟨ne (by decide), mem_own d L (.dma cc1_scoped0.sem) (by decide)⟩),
    SparseCore.bigSep_erase' (Finset.mem_erase.mpr ⟨ne (by decide), Finset.mem_erase.mpr ⟨ne (by decide), mem_own d L (.dma cc1_scoped1.sem) (by decide)⟩⟩),
    SparseCore.bigSep_erase' (Finset.mem_erase.mpr ⟨ne (by decide), Finset.mem_erase.mpr ⟨ne (by decide), Finset.mem_erase.mpr ⟨ne (by decide),
      mem_own d L (.dma cc1_scoped2.sem) (by decide)⟩⟩⟩)]

theorem ownBufs_V :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## The streams, numbered -/

/-- Stream `s`'s list and column block. -/
abbrev jO (s : Fin 6) : Fin 2 := ⟨s.val / 3, by omega⟩
abbrev cO (s : Fin 6) : Fin 3 := ⟨s.val % 3, by omega⟩

variable (ft : S1024x384.Idx → Elt F .f32) (fr : S2x128x384.Idx → Elt F .f32) (fo : S2x128.Idx → BitVec 32)

/-- Stream `s`'s piece of a share. -/
abbrev sq (q : PosShare TreeShare) (s : Fin 6) : PosShare TreeShare := pieceOf q 6 (by decide) s

abbrev srcPts (q : PosShare TreeShare) (s : Fin 6) : sProp 𝕄 := (srcV (cO s)).view.loc (thr d L) ↦[(srcV (cO s)).view.set]{sq q s} ft
abbrev lstPts (s : Fin 6) : sProp 𝕄 := (lstV (jO s)).view.loc (thr d L) ↦[(lstV (jO s)).view.set]{sq fullShare s} fo
abbrev dstPts (s : Fin 6) : sProp 𝕄 := (dstV (jO s) (cO s)).view.loc (thr d L) ↦[(dstV (jO s) (cO s)).view.set]{fullShare} fr

/-- What the streams leave of the table's share and of the list. -/
abbrev srcRest (q : PosShare TreeShare) (s : Fin 6) : sProp 𝕄 := (tV).view.loc (thr d L) ↦[Finset.univ \ (srcV (cO s)).view.set]{sq q s} ft
abbrev lstRest (s : Fin 6) : sProp 𝕄 := (sV).view.loc (thr d L) ↦[Finset.univ \ (lstV (jO s)).view.set]{sq fullShare s} fo

theorem src_split (q : PosShare TreeShare) :
    ((tV).view.loc (thr d L) ↦{q} ft : sProp 𝕄) = iprop(bigSep Finset.univ (srcPts d L ft q) ∗ bigSep Finset.univ (srcRest d L ft q)) := by
  refine (pointsTo_piecesOf (Ix := HIx 1) (Name := ℕ) (U := UU) (Lvl := ℕ) (Val := Elt F) (ℓ := (tV).view.loc (thr d L)) Finset.univ ft (o := 6) (by decide) q).trans ?_
  refine Eq.trans ?_ (BI.bigSep_sep Finset.univ (srcPts d L ft q) (srcRest d L ft q))
  refine BI.bigSep_congr fun s _ => ?_
  have h := pointsTo_split_subset (Ix := HIx 1) (Name := ℕ) (U := UU) (Lvl := ℕ) (ℓ := (tV).view.loc (thr d L)) (q := sq q s) (f := ft) (Finset.subset_univ (srcV (cO s)).view.set)
  exact BI.Entails.antisymm h.1 h.2

theorem lst_split :
    ((sV).view.loc (thr d L) ↦{fullShare} fo : sProp 𝕄) = iprop(bigSep Finset.univ (lstPts (F := F) d L fo) ∗ bigSep Finset.univ (lstRest (F := F) d L fo)) := by
  refine (pointsTo_piecesOf (Ix := HIx 1) (Name := ℕ) (U := UU) (Lvl := ℕ) (Val := Elt F) (ℓ := (sV).view.loc (thr d L)) Finset.univ fo (o := 6) (by decide) fullShare).trans ?_
  refine Eq.trans ?_ (BI.bigSep_sep Finset.univ (lstPts (F := F) d L fo) (lstRest (F := F) d L fo))
  refine BI.bigSep_congr fun s _ => ?_
  have h := pointsTo_split_subset (Ix := HIx 1) (Name := ℕ) (U := UU) (Lvl := ℕ) (Val := Elt F) (ℓ := (sV).view.loc (thr d L)) (q := sq fullShare s) (f := fo) (Finset.subset_univ (lstV (jO s)).view.set)
  exact BI.Entails.antisymm h.1 h.2

/-- The streams are numbered by their lists and column blocks. -/
def jcEquiv : Fin 6 ≃ Fin 2 × Fin 3 where
  toFun s := (jO s, cO s)
  invFun p := ⟨3 * p.1.val + p.2.val, by omega⟩
  left_inv s := Fin.ext (by show 3 * (s.val / 3) + s.val % 3 = s.val; omega)
  right_inv p := Prod.ext (Fin.ext (by show (3 * p.1.val + p.2.val) / 3 = p.1.val; omega)) (Fin.ext (by show (3 * p.1.val + p.2.val) % 3 = p.2.val; omega))

theorem dst_split : ((rV).view.loc (thr d L) ↦{fullShare} fr : sProp 𝕄) = bigSep Finset.univ (dstPts d L fr) := by
  have h : ((rV).view.loc (thr d L) ↦[(Finset.univ : Finset (Fin 2 × Fin 3)).biUnion dSet]{fullShare} fr : sProp 𝕄)
      = bigSep Finset.univ fun p => (rV).view.loc (thr d L) ↦[dSet p]{fullShare} fr :=
    pointsTo_biUnion (ℓ := (rV).view.loc (thr d L)) Finset.univ dSet fun p _ q _ hpq => dst_disjoint p q hpq
  rw [dst_cover, bigSep_univ_equiv jcEquiv] at h
  exact h

theorem bigSep6 (Φ : Fin 6 → sProp 𝕄) : bigSep Finset.univ Φ = iprop(Φ 0 ∗ Φ 1 ∗ Φ 2 ∗ Φ 3 ∗ Φ 4 ∗ Φ 5) :=
  BI.bigSep_univ_eq_bigSepL [0, 1, 2, 3, 4, 5] (by decide) (by decide) Φ

variable (hfo : ∀ x, (fo x).toNat < 1024)

theorem ho128 : 0 < S128x128.size gathers_S1024x128_S128x128.axis' := by decide

/-- Row `r` of stream `s`, delivered. -/
def rowD (q : PosShare TreeShare) (s : Fin 6) (r : Fin 128) : sProp 𝕄 :=
  GatherBatch.gRow (thr d L) (srcV (cO s)) (dstV (jO s) (cO s)) gathers_S1024x128_S128x128 (lstV (jO s)) rfl ho128
    (sq q s) (sq fullShare s) ft fr fo (SparseCore.rows ((lstV (jO s)).view.read (Elt F) fo) rfl (list_in (jO s) fo hfo)) r

/-- The batch's deliveries: stream by stream, row by row. -/
def batchD (q : PosShare TreeShare) (t : Fin (6 * 128)) : sProp 𝕄 :=
  rowD d L ft fr fo hfo q (finProdFinEquiv.symm t).1 (finProdFinEquiv.symm t).2

instance batchD_storable (q : PosShare TreeShare) (t : Fin (6 * 128)) : Storable (upEmb : UEmb _ 𝕄) (batchD d L ft fr fo hfo q t) := by
  unfold batchD rowD; exact GatherBatch.gRow_storable _ _ _ _ _ _ _ _ _ _ _ _ _ _

theorem batchD_at (q : PosShare TreeShare) (s : Fin 6) (r : Fin 128) (k : ℕ) (hk : k = s.val * 128) (h : k + r.val < 6 * 128) :
    batchD d L ft fr fo hfo q ⟨k + r.val, h⟩ = rowD d L ft fr fo hfo q s r := by
  have e : (⟨k + r.val, h⟩ : Fin (6 * 128)) = finProdFinEquiv (s, r) := Fin.ext (by
    show k + r.val = r.val + 128 * s.val
    omega)
  unfold batchD; rw [e, Equiv.symm_apply_apply]

/-- Every delivery together: the streams' pieces back, and the row scratch whole at the gathered rows. -/
theorem batch_join (q : PosShare TreeShare) :
    bigSep Finset.univ (batchD d L ft fr fo hfo q)
      ⊢ iprop(((rV).view.loc (thr d L) ↦{fullShare} rowsAll ft fo) ∗ bigSep Finset.univ (srcPts d L ft q) ∗ bigSep Finset.univ (lstPts (F := F) d L fo)) := by
  rw [bigSep_univ_equiv (finProdFinEquiv : Fin 6 × Fin 128 ≃ Fin (6 * 128)), bigSep_univ_prod]
  have h : ∀ s : Fin 6, bigSep Finset.univ (fun r : Fin 128 => batchD d L ft fr fo hfo q (finProdFinEquiv (s, r)))
      ⊢ iprop(dstPts d L (rowsAll ft fo) s ∗ srcPts d L ft q s ∗ lstPts (F := F) d L fo s) := fun s => by
    have e : (fun r : Fin 128 => batchD d L ft fr fo hfo q (finProdFinEquiv (s, r))) = rowD d L ft fr fo hfo q s := by
      funext r; unfold batchD; rw [Equiv.symm_apply_apply]
    rw [e]
    refine (GatherBatch.gRow_join (thr d L) (srcV (cO s)) (dstV (jO s) (cO s)) gathers_S1024x128_S128x128 (lstV (jO s)) rfl ho128
      (sq q s) (sq fullShare s) ft fr fo (SparseCore.rows ((lstV (jO s)).view.read (Elt F) fo) rfl (list_in (jO s) fo hfo))).trans ?_
    iintro ⟨Hd, Hr⟩
    isplitl [Hd]
    · iapply (Entails.of_eq (pointsTo_congr (Ix := HIx 1) (Name := ℕ) (U := UU) (Lvl := ℕ) (ℓ := (dstV (jO s) (cO s)).view.loc (thr d L)) (q := fullShare)
        fun x hx => stream_value (jO s) (cO s) ft fr fo (list_in (jO s) fo hfo) x hx)); iexact Hd
    · iexact Hr
  have hm : bigSep Finset.univ (fun s : Fin 6 => bigSep Finset.univ (fun r : Fin 128 => batchD d L ft fr fo hfo q (finProdFinEquiv (s, r))))
      ⊢ bigSep Finset.univ (fun s : Fin 6 => iprop(dstPts d L (rowsAll ft fo) s ∗ srcPts d L ft q s ∗ lstPts (F := F) d L fo s)) :=
    BI.bigSep_mono fun s _ => h s
  rw [dst_split]
  iintro H0
  ihave H := hm $$ H0
  ihave H1 := Transfers.bigSep_sep_out _ _ _ $$ H
  icases H1 with ⟨Hd, H2⟩
  ihave H3 := Transfers.bigSep_sep_out _ _ _ $$ H2
  icases H3 with ⟨Hs, Hl⟩
  isplitl [Hd]; · iexact Hd
  isplitl [Hs]; · iexact Hs
  iexact Hl

end Tile

end Cert.Proof.KI
-- ==== Proof.TaskI.lean ====
/-
  The run of one task of the SparseCore call.
-/
module

public import proofs.«01_k».proof.Proof.TileI

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

section Task

variable (d : Dev nD) (L : grid1.Coords)

/-- What one row's copy credits. -/
abbrev rowCredit : ℕ := ((dstV 0 0).slice (S128x128.rowRect gathers_S1024x128_S128x128.axis' (0 : Fin 128)) (S128x128.stride_rowRect gathers_S1024x128_S128x128.axis' (0 : Fin 128))).view.dmaCredit

theorem row_credit (s : Fin 6) (j : Fin 128) :
    ((dstV (jO s) (cO s)).slice (S128x128.rowRect gathers_S1024x128_S128x128.axis' j) (S128x128.stride_rowRect gathers_S1024x128_S128x128.axis' j)).view.dmaCredit = rowCredit := rfl
theorem credit_pos : 0 < rowCredit := by decide
theorem stream_credit (s : Fin 6) : (dstV (jO s) (cO s)).view.dmaCredit = 128 * rowCredit :=
  show (dstV 0 0).view.dmaCredit = 128 * rowCredit by decide

/-- The task's two blocks of the output, at the program's own offsets. -/
abbrev oB0 : Memref sig .scVector .hbm S128x384 .f32 := oV.slice (Rect.unit (s := S8192x384) (k1_off2 L 0#32) S128x384.size (k1_off2_inb L 0)) (fun _ => rfl)
abbrev oB1 : Memref sig .scVector .hbm S128x384 .f32 := oV.slice (Rect.unit (s := S8192x384) (k1_off2 L 128#32) S128x384.size (k1_off2_inb L 1)) (fun _ => rfl)

theorem pts_oB0 (f : S8192x384.Idx → Elt F .f32) :
    ((oB0 L).view.loc (thr d L) ↦[(oB0 L).view.set]{fullShare} f : sProp 𝕄) = oPts d (blkNo (cL L) (iL L) 0) f := pts_oBlkK d L 0 f
theorem pts_oB1 (f : S8192x384.Idx → Elt F .f32) :
    ((oB1 L).view.loc (thr d L) ↦[(oB1 L).view.set]{fullShare} f : sProp 𝕄) = oPts d (blkNo (cL L) (iL L) 1) f := pts_oBlkK d L 1 f

/-- After its copy out, a block holds its rows of the result. -/
theorem block_out (j : Fin 2) (ft : S1024x384.Idx → Elt F .f32) (fl : S32x2x128.Idx → BitVec 32) (fo : S8192x384.Idx → Elt F .f32) :
    ((oBlkK L j).view.loc (thr d L) ↦[(oBlkK L j).view.set]{fullShare}
        (oBlkK L j).view.writes (Elt F) fo [⟨Rect.whole S128x384, (blkV j).view.read (Elt F) (rowsAll ft (lstOf (F := F) L fl))⟩] : sProp 𝕄)
      ⊢ oPts d (blkNo (cL L) (iL L) j) (gathered ft fl) := by
  refine (Entails.of_eq ?_).trans (Entails.of_eq (pts_oBlkK (F := F) d L j _))
  refine pointsTo_congr fun x hx => ?_
  rw [← View.write_univ_eq_writes_whole, View.writes_nil]
  exact out_value L j ft fl fo x hx

set_option maxHeartbeats 4000000 in
theorem task_run (hF : (K (F := F)).Facts) (ft : S1024x384.Idx → Elt F .f32) (fl : S32x2x128.Idx → BitVec 32) (f₀ : S8192x384.Idx → Elt F .f32)
    (hfl : ∀ x, (fl x).toNat < 1024) (O : CellTallies nD τ sig (HIx 1)) (W : Waits sig (HIx 1)) (hO : ∀ g, O g none = 0) :
    iprop(levAts (K (F := F)).L (K (F := F)).lev ∗ emp
        ∗ taskPts d (cL L) (iL L) ft fl f₀
        ∗ scopedBufs (thr d L) ∗ scopedSems0 (thr d L) ∗ owes (thr d L) O W)
      ⊢ wp frame (wpE (defs₀ (F := F)) Variants.none (thr d L) none) Set.univ
          (cc1_gather_k L tV (Memref.isWhole_whole _) lV (Memref.isWhole_whole _) oV (Memref.isWhole_whole _)
            sV (Memref.isWhole_whole _) rV (Memref.isWhole_whole _) cc1_scratch2 cc1_scoped0 cc1_scoped1 cc1_scoped2)
          fun _ => iprop(taskPts d (cL L) (iL L) ft fl (gathered ft fl)
            ∗ scopedBufs (thr d L) ∗ scopedSems0 (thr d L)
            ∗ ∃ W', ⌜∀ p ∈ W', p ∈ W ∨ p.2 = none⌝ ∗ owes (thr d L) O W') := by
  simp only [cc1_gather_k_eq_skeleton]; unfold cc1_gather_k_skel
  simp only [k1_part4_eq_skeleton]; unfold k1_part4_skel
  simp only [k1_part1_eq_skeleton, k1_part2_eq_skeleton, k1_part3_eq_skeleton]; unfold k1_part1_skel k1_part2_skel k1_part3_skel
  rw [(K (F := F)).scopedBufs_V hF d (cV L) (jV L), SparseCore.Cfg.scopedSems0_V (Val := Elt F) d (cV L) (jV L), ownSems0_V d L, ownBufs_V d L]
  iintro ⟨#Hlv, -, ⟨Ht, Hl, Ho0, Ho1⟩, ⟨⟨%fs, Hs⟩, ⟨%fr, Hr⟩, Hbufs⟩, ⟨Hsem0, Hsem1, Hsem2, Hsem3, Hsems⟩, HO⟩
  ihave Hmw := (show levAts (K (F := F)).L (K (F := F)).lev ⊢ Transfers.MayWaits (thr d L) (default : HIx 1) O from
    (K (F := F)).mayWaits_none (thr := thr d L) hO) $$ Hlv
  ihave Hl' := (Entails.of_eq (pts_lRowK (F := F) d L _).symm) $$ Hl
  ihave Ht' := (Entails.of_eq (pts_tV (F := F) d L _ _).symm) $$ Ht
  ihave Hs' := (Entails.of_eq (pts_sV (F := F) d L _).symm) $$ Hs
  ihave Hr' := (Entails.of_eq (pts_rV (F := F) d L _).symm) $$ Hr
  have hfo : ∀ x, (lstOf (F := F) L fl x).toNat < 1024 := lstOf_lt L fl hfl
  sl_exec
  ihave Hs2 := (show ((sV).view.loc (thr d L) ↦{fullShare} View.write (Elt F) (sV).view fs (task_run.sl.dma0 L fl) Finset.univ : sProp 𝕄)
      ⊢ (sV).view.loc (thr d L) ↦{fullShare} lstOf (F := F) L fl from Entails.of_eq (by rw [View.write_whole_univ]; rfl)) $$ Hs'
  ihave Hs3 := (Entails.of_eq (lst_split (F := F) d L (lstOf (F := F) L fl))) $$ Hs2
  icases Hs3 with ⟨HLs, HLr⟩
  ihave Ht2 := (Entails.of_eq (src_split (F := F) d L ft (tq (taskNo (cL L) (iL L))))) $$ Ht'
  icases Ht2 with ⟨HSs, HSr⟩
  ihave HDs := (Entails.of_eq (dst_split (F := F) d L fr)) $$ Hr'
  ihave HL6 := (Entails.of_eq (bigSep6 (F := F) _)) $$ HLs
  icases HL6 with ⟨HL0, HL1, HL2, HL3, HL4, HL5⟩
  ihave HS6 := (Entails.of_eq (bigSep6 (F := F) _)) $$ HSs
  icases HS6 with ⟨HS0, HS1, HS2, HS3, HS4, HS5⟩
  ihave HD6 := (Entails.of_eq (bigSep6 (F := F) _)) $$ HDs
  icases HD6 with ⟨HD0, HD1, HD2, HD3, HD4, HD5⟩
  imod (Transfers.batch_alloc' countersEmb (thr d L) (sm := SemLoc.dma cc1_scratch2.sem) (default : HIx 1) rowCredit
    (batchD d L ft fr (lstOf (F := F) L fl) hfo (tq (taskNo (cL L) (iL L)))) (E := Set.univ)) $$ Hsem0 with HB
  iapply (GatherBatch.wp_gatherBatch countersEmb Variants.none (thr d L) none (src := srcV (cO 0)) (dst := dstV (jO 0) (cO 0)) (offs := lstV (jO 0))
      (hg := gathers_S1024x128_S128x128) (hn := rfl) (q := sq (tq (taskNo (cL L) (iL L))) 0) (qo := sq fullShare 0) (fs := ft) (fd := fr) (fo := lstOf (F := F) L fl)
      (default : HIx 1) rowCredit (k := 0 * 128) (u := 0) ho128 (row_credit 0) (by decide) (by decide) (list_in (jO 0) _ hfo)
      (fun j => Entails.of_eq (batchD_at d L ft fr (lstOf (F := F) L fl) hfo (tq (taskNo (cL L) (iL L))) 0 j (0 * 128) rfl _).symm)) $$ [HS0 HD0 HL0 HB]
  · isplitl [HS0]; · iexact HS0
    isplitl [HD0]; · iexact HD0
    isplitl [HL0]; · iexact HL0
    iexact HB
  iintro HB
  sl_exec
  iapply (GatherBatch.wp_gatherBatch countersEmb Variants.none (thr d L) none (src := srcV (cO 1)) (dst := dstV (jO 1) (cO 1)) (offs := lstV (jO 1))
      (hg := gathers_S1024x128_S128x128) (hn := rfl) (q := sq (tq (taskNo (cL L) (iL L))) 1) (qo := sq fullShare 1) (fs := ft) (fd := fr) (fo := lstOf (F := F) L fl)
      (default : HIx 1) rowCredit (k := 1 * 128) (u := 0) ho128 (row_credit 1) (by decide) (by decide) (list_in (jO 1) _ hfo)
      (fun j => Entails.of_eq (batchD_at d L ft fr (lstOf (F := F) L fl) hfo (tq (taskNo (cL L) (iL L))) 1 j (1 * 128) rfl _).symm)) $$ [HS1 HD1 HL1 HB]
  · isplitl [HS1]; · iexact HS1
    isplitl [HD1]; · iexact HD1
    isplitl [HL1]; · iexact HL1
    iexact HB
  iintro HB
  sl_exec
  iapply (GatherBatch.wp_gatherBatch countersEmb Variants.none (thr d L) none (src := srcV (cO 2)) (dst := dstV (jO 2) (cO 2)) (offs := lstV (jO 2))
      (hg := gathers_S1024x128_S128x128) (hn := rfl) (q := sq (tq (taskNo (cL L) (iL L))) 2) (qo := sq fullShare 2) (fs := ft) (fd := fr) (fo := lstOf (F := F) L fl)
      (default : HIx 1) rowCredit (k := 2 * 128) (u := 0) ho128 (row_credit 2) (by decide) (by decide) (list_in (jO 2) _ hfo)
      (fun j => Entails.of_eq (batchD_at d L ft fr (lstOf (F := F) L fl) hfo (tq (taskNo (cL L) (iL L))) 2 j (2 * 128) rfl _).symm)) $$ [HS2 HD2 HL2 HB]
  · isplitl [HS2]; · iexact HS2
    isplitl [HD2]; · iexact HD2
    isplitl [HL2]; · iexact HL2
    iexact HB
  iintro HB
  sl_exec
  iapply (GatherBatch.wp_gatherBatch countersEmb Variants.none (thr d L) none (src := srcV (cO 3)) (dst := dstV (jO 3) (cO 3)) (offs := lstV (jO 3))
      (hg := gathers_S1024x128_S128x128) (hn := rfl) (q := sq (tq (taskNo (cL L) (iL L))) 3) (qo := sq fullShare 3) (fs := ft) (fd := fr) (fo := lstOf (F := F) L fl)
      (default : HIx 1) rowCredit (k := 3 * 128) (u := 0) ho128 (row_credit 3) (by decide) (by decide) (list_in (jO 3) _ hfo)
      (fun j => Entails.of_eq (batchD_at d L ft fr (lstOf (F := F) L fl) hfo (tq (taskNo (cL L) (iL L))) 3 j (3 * 128) rfl _).symm)) $$ [HS3 HD3 HL3 HB]
  · isplitl [HS3]; · iexact HS3
    isplitl [HD3]; · iexact HD3
    isplitl [HL3]; · iexact HL3
    iexact HB
  iintro HB
  sl_exec
  iapply (GatherBatch.wp_gatherBatch countersEmb Variants.none (thr d L) none (src := srcV (cO 4)) (dst := dstV (jO 4) (cO 4)) (offs := lstV (jO 4))
      (hg := gathers_S1024x128_S128x128) (hn := rfl) (q := sq (tq (taskNo (cL L) (iL L))) 4) (qo := sq fullShare 4) (fs := ft) (fd := fr) (fo := lstOf (F := F) L fl)
      (default : HIx 1) rowCredit (k := 4 * 128) (u := 0) ho128 (row_credit 4) (by decide) (by decide) (list_in (jO 4) _ hfo)
      (fun j => Entails.of_eq (batchD_at d L ft fr (lstOf (F := F) L fl) hfo (tq (taskNo (cL L) (iL L))) 4 j (4 * 128) rfl _).symm)) $$ [HS4 HD4 HL4 HB]
  · isplitl [HS4]; · iexact HS4
    isplitl [HD4]; · iexact HD4
    isplitl [HL4]; · iexact HL4
    iexact HB
  iintro HB
  sl_exec
  iapply (GatherBatch.wp_gatherBatch countersEmb Variants.none (thr d L) none (src := srcV (cO 5)) (dst := dstV (jO 5) (cO 5)) (offs := lstV (jO 5))
      (hg := gathers_S1024x128_S128x128) (hn := rfl) (q := sq (tq (taskNo (cL L) (iL L))) 5) (qo := sq fullShare 5) (fs := ft) (fd := fr) (fo := lstOf (F := F) L fl)
      (default : HIx 1) rowCredit (k := 5 * 128) (u := 0) ho128 (row_credit 5) (by decide) (by decide) (list_in (jO 5) _ hfo)
      (fun j => Entails.of_eq (batchD_at d L ft fr (lstOf (F := F) L fl) hfo (tq (taskNo (cL L) (iL L))) 5 j (5 * 128) rfl _).symm)) $$ [HS5 HD5 HL5 HB]
  · isplitl [HS5]; · iexact HS5
    isplitl [HD5]; · iexact HD5
    isplitl [HL5]; · iexact HL5
    iexact HB
  iintro HB
  simp only [Prog.bind_assoc, SparseCore.waitIndirectGather, Prog.lift, Prog.bind_op, Prog.bind_ret, Prog.pure_eq_ret]
  iapply (Transfers.wp_waitBatchMulO countersEmb Variants.none (thr d L) none (default : HIx 1) (N := rowCredit) 128 (stream_credit 0) (j := 6 * 128) (u := 0 * (128 * rowCredit)) (by decide)) $$ [HB HO]
  · isplitl [HB]; · iexact HB
    isplitl [HO]; · iexact HO
    iapply (Transfers.MayWaits.elim (SemLoc.dma cc1_scratch2.sem)) $$ Hmw
  iintro ⟨HB, HO⟩
  iapply (Transfers.wp_waitBatchMulO countersEmb Variants.none (thr d L) none (default : HIx 1) (N := rowCredit) 128 (stream_credit 1) (j := 6 * 128) (u := 1 * (128 * rowCredit)) (by decide)) $$ [HB HO]
  · isplitl [HB]; · iexact HB
    isplitl [HO]; · iexact HO
    iapply (Transfers.MayWaits.elim (SemLoc.dma cc1_scratch2.sem)) $$ Hmw
  iintro ⟨HB, HO⟩
  iapply (Transfers.wp_waitBatchMulO countersEmb Variants.none (thr d L) none (default : HIx 1) (N := rowCredit) 128 (stream_credit 2) (j := 6 * 128) (u := 2 * (128 * rowCredit)) (by decide)) $$ [HB HO]
  · isplitl [HB]; · iexact HB
    isplitl [HO]; · iexact HO
    iapply (Transfers.MayWaits.elim (SemLoc.dma cc1_scratch2.sem)) $$ Hmw
  iintro ⟨HB, HO⟩
  iapply (Transfers.wp_waitBatchMulO countersEmb Variants.none (thr d L) none (default : HIx 1) (N := rowCredit) 128 (stream_credit 3) (j := 6 * 128) (u := 3 * (128 * rowCredit)) (by decide)) $$ [HB HO]
  · isplitl [HB]; · iexact HB
    isplitl [HO]; · iexact HO
    iapply (Transfers.MayWaits.elim (SemLoc.dma cc1_scratch2.sem)) $$ Hmw
  iintro ⟨HB, HO⟩
  iapply (Transfers.wp_waitBatchMulO countersEmb Variants.none (thr d L) none (default : HIx 1) (N := rowCredit) 128 (stream_credit 4) (j := 6 * 128) (u := 4 * (128 * rowCredit)) (by decide)) $$ [HB HO]
  · isplitl [HB]; · iexact HB
    isplitl [HO]; · iexact HO
    iapply (Transfers.MayWaits.elim (SemLoc.dma cc1_scratch2.sem)) $$ Hmw
  iintro ⟨HB, HO⟩
  iapply (Transfers.wp_waitBatchMulO countersEmb Variants.none (thr d L) none (default : HIx 1) (N := rowCredit) 128 (stream_credit 5) (j := 6 * 128) (u := 5 * (128 * rowCredit)) (by decide)) $$ [HB HO]
  · isplitl [HB]; · iexact HB
    isplitl [HO]; · iexact HO
    iapply (Transfers.MayWaits.elim (SemLoc.dma cc1_scratch2.sem)) $$ Hmw
  iintro ⟨HB, HO⟩
  rw [show 5 * (128 * rowCredit) + 128 * rowCredit = rowCredit * (6 * 128) from by ring]
  imod (Transfers.batch_collect' countersEmb (thr d L) credit_pos) $$ HB with ⟨HDel, Hsem0⟩
  ihave HJ := (batch_join (F := F) d L ft fr (lstOf (F := F) L fl) hfo (tq (taskNo (cL L) (iL L)))) $$ HDel
  icases HJ with ⟨Hr2, HSs, HLs⟩
  ihave Ht3 := (Entails.of_eq (src_split (F := F) d L ft (tq (taskNo (cL L) (iL L)))).symm) $$ [HSs HSr]
  · isplitl [HSs]; · iexact HSs
    iexact HSr
  ihave Hs4 := (Entails.of_eq (lst_split (F := F) d L (lstOf (F := F) L fl)).symm) $$ [HLs HLr]
  · isplitl [HLs]; · iexact HLs
    iexact HLr
  ihave Ho0' := (Entails.of_eq (pts_oB0 (F := F) d L _).symm) $$ Ho0
  ihave Ho1' := (Entails.of_eq (pts_oB1 (F := F) d L _).symm) $$ Ho1
  sl_exec
  ihave Hp0 := (show ((oB0 L).view.loc (thr d L) ↦[(oB0 L).view.set]{fullShare} (oB0 L).view.writes (Elt F) f₀ [⟨Rect.whole S128x384, task_run.sl.dma0_1 L ft fl⟩] : sProp 𝕄)
      ⊢ oPts d (blkNo (cL L) (iL L) 0) (gathered ft fl) from block_out (F := F) d L 0 ft fl f₀) $$ Ho0'
  ihave Hp1 := (show ((oB1 L).view.loc (thr d L) ↦[(oB1 L).view.set]{fullShare} (oB1 L).view.writes (Elt F) f₀ [⟨Rect.whole S128x384, task_run.sl.dma0_2 L ft fl⟩] : sProp 𝕄)
      ⊢ oPts d (blkNo (cL L) (iL L) 1) (gathered ft fl) from block_out (F := F) d L 1 ft fl f₀) $$ Ho1'
  ihave Hl2 := (Entails.of_eq (pts_lRowK (F := F) d L _)) $$ Hl'
  rw [wp_ret]
  imodintro
  isplitl [Ht3 Hl2 Hp0 Hp1]
  · isplitl [Ht3]; · iexact Ht3
    isplitl [Hl2]; · iexact Hl2
    isplitl [Hp0]; · iexact Hp0
    iexact Hp1
  isplitl [Hs4 Hr2 Hbufs]
  · isplitl [Hs4]; · iexists (lstOf (F := F) L fl); iexact Hs4
    isplitl [Hr2]; · iexists (rowsAll ft (lstOf (F := F) L fl)); iexact Hr2
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert ((SemLoc.dma cc1_scoped2.sem, (default : HIx 1)) : SemLoc sig × HIx 1) (insert ((SemLoc.dma cc1_scoped1.sem, (default : HIx 1)) : SemLoc sig × HIx 1) (insert ((SemLoc.dma cc1_scratch2.sem, (default : HIx 1)) : SemLoc sig × HIx 1) (insert ((SemLoc.dma cc1_scratch2.sem, (default : HIx 1)) : SemLoc sig × HIx 1) (insert ((SemLoc.dma cc1_scratch2.sem, (default : HIx 1)) : SemLoc sig × HIx 1) (insert ((SemLoc.dma cc1_scratch2.sem, (default : HIx 1)) : SemLoc sig × HIx 1) (insert ((SemLoc.dma cc1_scratch2.sem, (default : HIx 1)) : SemLoc sig × HIx 1) (insert ((SemLoc.dma cc1_scratch2.sem, (default : HIx 1)) : SemLoc sig × HIx 1) (insert ((SemLoc.dma cc1_scoped0.sem, (default : HIx 1)) : SemLoc sig × HIx 1) W)))))))))
  isplitr
  · ipureintro
    intro p hp
    simp only [Finset.mem_insert] at hp
    rcases hp with hp | hp | hp | hp | hp | hp | hp | hp | hp | hp
    all_goals first | exact .inl hp | exact .inr (hp ▸ rfl)
  iexact HO

end Task

end Cert.Proof.KI
-- ==== Proof.LaunchI.lean ====
/-
  The launch: what the SparseCore handshakes carry, the tasks' operands dealt out of the whole buffers and put together
  again, @main on the TensorCore, and the program's run with the contents of every buffer at its end.
-/
module

public import proofs.«01_k».proof.Proof.Region2I
public import proofs.«01_k».proof.Proof.TaskI

@[expose] public section

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.Pipeline (ucRefs)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The tasks' operands, out of the whole buffers -/

theorem lRowSet_eq (w : Fin 32) : lRowSet w = (lrow w).set := by
  show ((View.whole (main_v3_scv : Ref sig .scVector)).slice (lrow w)).set = _
  rw [View.set_slice]; exact Finset.map_refl
theorem oRowSet_eq (b : Fin 64) : oRowSet b = (orow b).set := by
  show ((View.whole (main_v4_scv : Ref sig .scVector)).slice (orow b)).set = _
  rw [View.set_slice]; exact Finset.map_refl
theorem lrows_disjoint : ∀ i ∈ (Finset.univ : Finset (Fin 32)), ∀ j ∈ (Finset.univ : Finset (Fin 32)), i ≠ j → Disjoint (lRowSet i) (lRowSet j) :=
  fun i _ j _ h => by rw [lRowSet_eq, lRowSet_eq]; exact Rect.part_disjoint ldiv h
theorem orows_disjoint : ∀ i ∈ (Finset.univ : Finset (Fin 64)), ∀ j ∈ (Finset.univ : Finset (Fin 64)), i ≠ j → Disjoint (oRowSet i) (oRowSet j) :=
  fun i _ j _ h => by rw [oRowSet_eq, oRowSet_eq]; exact Rect.part_disjoint odiv h
theorem lrows_cover : (Finset.univ : Finset (Fin 32)).biUnion lRowSet = Finset.univ :=
  (Finset.biUnion_congr rfl fun i _ => lRowSet_eq i).trans (Rect.biUnion_part ldiv)
theorem orows_cover : (Finset.univ : Finset (Fin 64)).biUnion oRowSet = Finset.univ :=
  (Finset.biUnion_congr rfl fun i _ => oRowSet_eq i).trans (Rect.biUnion_part odiv)

theorem taskNo_bij : Function.Bijective fun p : Fin 2 × Fin 16 => taskNo p.1 p.2 :=
  (Fintype.bijective_iff_injective_and_card _).2 ⟨by decide, by decide⟩
theorem blkNo_bij : Function.Bijective fun p : (Fin 2 × Fin 16) × Fin 2 => blkNo p.1.1 p.1.2 p.2 := by
  refine (Fintype.bijective_iff_injective_and_card _).2 ⟨?_, by decide⟩
  rintro ⟨⟨c, i⟩, j⟩ ⟨⟨c', i'⟩, j'⟩ h
  have h := congrArg Fin.val h
  simp only [blkNo] at h
  have e1 : j.val = j'.val := by omega
  have e2 : c.val = c'.val := by omega
  have e3 : i.val = i'.val := by omega
  rw [Fin.ext e1, Fin.ext e2, Fin.ext e3]

theorem bigSep_task (Φ : Fin 32 → sProp 𝕄) :
    bigSep Finset.univ Φ = bigSep Finset.univ fun p : Fin 2 × Fin 16 => Φ (taskNo p.1 p.2) :=
  bigSep_univ_equiv (Equiv.ofBijective _ taskNo_bij) Φ

theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem bigSep_blk (Φ : Fin 64 → sProp 𝕄) :
    bigSep Finset.univ Φ = bigSep Finset.univ fun p : Fin 2 × Fin 16 => iprop(Φ (blkNo p.1 p.2 0) ∗ Φ (blkNo p.1 p.2 1)) := by
  refine (bigSep_univ_equiv (Equiv.ofBijective _ blkNo_bij) Φ).trans ?_
  refine (bigSep_univ_prod _).trans ?_
  exact bigSep_congr fun p _ => bigSep_two _

/-- The three buffers of the SparseCore call, whole. -/
abbrev wholes (d : Dev nD) (ft : S1024x384.Idx → Elt F .f32) (fl : S32x2x128.Idx → BitVec 32) (fo : S8192x384.Idx → Elt F .f32) : sProp 𝕄 :=
  iprop((tLoc d ↦{fullShare} ft) ∗ (lLoc d ↦{fullShare} fl) ∗ (oLoc d ↦{fullShare} fo))

theorem tPts_tasks (d : Dev nD) (ft : S1024x384.Idx → Elt F .f32) :
    (tLoc d ↦{fullShare} ft : sProp 𝕄) = bigSep Finset.univ fun p : Fin 2 × Fin 16 => tPts d (tq (taskNo p.1 p.2)) ft :=
  (pointsTo_piecesOf (Ix := HIx 1) (Name := ℕ) (U := UU) (Lvl := ℕ) (Val := Elt F) (ℓ := tLoc d) Finset.univ ft (o := 32) (by decide) fullShare).trans (bigSep_task _)
theorem lPts_tasks (d : Dev nD) (fl : S32x2x128.Idx → BitVec 32) :
    (lLoc d ↦{fullShare} fl : sProp 𝕄) = bigSep Finset.univ fun p : Fin 2 × Fin 16 => lPts d (taskNo p.1 p.2) fl := by
  refine Eq.trans ?_ (bigSep_task fun w => lPts d w fl)
  show _ = bigSep Finset.univ fun w : Fin 32 => (lLoc d ↦[lRowSet w]{fullShare} fl : sProp 𝕄)
  rw [← pointsTo_biUnion Finset.univ (ℓ := lLoc d) lRowSet lrows_disjoint, lrows_cover]; try rfl
theorem oPts_tasks (d : Dev nD) (fo : S8192x384.Idx → Elt F .f32) :
    (oLoc d ↦{fullShare} fo : sProp 𝕄) = bigSep Finset.univ fun p : Fin 2 × Fin 16 => iprop(oPts d (blkNo p.1 p.2 0) fo ∗ oPts d (blkNo p.1 p.2 1) fo) := by
  refine Eq.trans ?_ (bigSep_blk fun b => oPts d b fo)
  show _ = bigSep Finset.univ fun w : Fin 64 => (oLoc d ↦[oRowSet w]{fullShare} fo : sProp 𝕄)
  rw [← pointsTo_biUnion Finset.univ (ℓ := oLoc d) oRowSet orows_disjoint, orows_cover]; try rfl

/-- The three buffers whole are every task's operands at once. -/
theorem wholes_tasks (d : Dev nD) (ft : S1024x384.Idx → Elt F .f32) (fl : S32x2x128.Idx → BitVec 32) (fo : S8192x384.Idx → Elt F .f32) :
    wholes d ft fl fo = bigSep Finset.univ fun c : Fin 2 => bigSep Finset.univ fun i : Fin 16 => taskPts d c i ft fl fo := by
  refine Eq.trans ?_ (bigSep_univ_prod fun p : Fin 2 × Fin 16 => taskPts d p.1 p.2 ft fl fo)
  show iprop((tLoc d ↦{fullShare} ft) ∗ (lLoc d ↦{fullShare} fl) ∗ (oLoc d ↦{fullShare} fo)) = _
  rw [tPts_tasks, lPts_tasks, oPts_tasks]
  rw [bigSep_sep', bigSep_sep', bigSep_sep', bigSep_sep']

/-! ## What the handshakes carry -/

section Pay

variable (ft : Dev nD → S1024x384.Idx → Elt F .f32) (fl : Dev nD → S32x2x128.Idx → BitVec 32) (fo : Dev nD → S8192x384.Idx → Elt F .f32)

/-- Each task's operands, and the same with its blocks of the output gathered; a sequencer carries its sixteen tasks'. -/
def P : (K (F := F)).Pay (nD := nD) (Val := Elt F) (Name := ℕ) (U := UU) where
  st := fun q d c => match q with
    | 0 => bigSep Finset.univ fun i : Fin 16 => taskPts d (Fin.cast nCore_zero c) i (ft d) (fl d) (fo d)
  dn := fun q d c => match q with
    | 0 => bigSep Finset.univ fun i : Fin 16 => taskPts d (Fin.cast nCore_zero c) i (ft d) (fl d) (gathered (ft d) (fl d))
  go := fun q d c i => match q with
    | 0 => taskPts d (Fin.cast nCore_zero c) (Fin.cast nSub_zero i) (ft d) (fl d) (fo d)
  td := fun q d c i => match q with
    | 0 => taskPts d (Fin.cast nCore_zero c) (Fin.cast nSub_zero i) (ft d) (fl d) (gathered (ft d) (fl d))
  x := fun _ _ => iprop(emp)

instance P_storable : (P (F := F) ft fl fo).IsStorable where
  st q d c := match q with
    | 0 => (inferInstance : BI.Storable (upEmb : UEmb _ 𝕄) (bigSep Finset.univ fun i : Fin 16 => taskPts d (Fin.cast nCore_zero c) i (ft d) (fl d) (fo d)))
  dn q d c := match q with
    | 0 => (inferInstance : BI.Storable (upEmb : UEmb _ 𝕄) (bigSep Finset.univ fun i : Fin 16 => taskPts d (Fin.cast nCore_zero c) i (ft d) (fl d) (gathered (ft d) (fl d))))
  go q d c i := match q with
    | 0 => (inferInstance : BI.Storable (upEmb : UEmb _ 𝕄) (taskPts d (Fin.cast nCore_zero c) (Fin.cast nSub_zero i) (ft d) (fl d) (fo d)))
  td q d c i := match q with
    | 0 => (inferInstance : BI.Storable (upEmb : UEmb _ 𝕄) (taskPts d (Fin.cast nCore_zero c) (Fin.cast nSub_zero i) (ft d) (fl d) (gathered (ft d) (fl d))))

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P ft fl fo) 0 := by
  intro d c
  show (bigSep Finset.univ fun i : Fin 16 => taskPts d (Fin.cast nCore_zero c) i (ft d) (fl d) (fo d)) ⊢ |={Set.univ}=> iprop(
      (bigSep Finset.univ fun i : Fin ((K (F := F)).nSub 0) => taskPts d (Fin.cast nCore_zero c) (Fin.cast nSub_zero i) (ft d) (fl d) (fo d))
      ∗ ((bigSep Finset.univ fun i : Fin ((K (F := F)).nSub 0) => taskPts d (Fin.cast nCore_zero c) (Fin.cast nSub_zero i) (ft d) (fl d) (gathered (ft d) (fl d)))
          -∗ bigSep Finset.univ fun i : Fin 16 => taskPts d (Fin.cast nCore_zero c) i (ft d) (fl d) (gathered (ft d) (fl d))))
  rw [bigSep_subs (F := F) (fun i => taskPts d (Fin.cast nCore_zero c) i (ft d) (fl d) (fo d)),
    bigSep_subs (F := F) (fun i => taskPts d (Fin.cast nCore_zero c) i (ft d) (fl d) (gathered (ft d) (fl d)))]
  iintro H; imodintro
  isplitl [H]; · iexact H
  iintro H; iexact H

theorem st0_eq (d : Dev nD) : (bigSep Finset.univ fun c : Fin ((K (F := F)).nCore 0) => (P ft fl fo).st 0 d c) = wholes d (ft d) (fl d) (fo d) :=
  (bigSep_cores (F := F) fun c => bigSep Finset.univ fun i : Fin 16 => taskPts d c i (ft d) (fl d) (fo d)).trans (wholes_tasks d _ _ _).symm
theorem dn0_eq (d : Dev nD) : (bigSep Finset.univ fun c : Fin ((K (F := F)).nCore 0) => (P ft fl fo).dn 0 d c) = wholes d (ft d) (fl d) (gathered (ft d) (fl d)) :=
  (bigSep_cores (F := F) fun c => bigSep Finset.univ fun i : Fin 16 => taskPts d c i (ft d) (fl d) (gathered (ft d) (fl d))).trans (wholes_tasks d _ _ _).symm

variable [FloatOps F]

abbrev D : Defs nD τ sig (Elt F) (ΛP (F := F)) := Pipeline.defs pcfgs (defs₀ (F := F))
abbrev 𝒱₁ : Variants := Variants.none.lift
abbrev v₀ : 𝒱₁.V := Sum.inl none

/-! ## A task's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_k (coordsV c s) tV (Memref.isWhole_whole _) lV (Memref.isWhole_whole _) oV (Memref.isWhole_whole _)
            sV (Memref.isWhole_whole _) rV (Memref.isWhole_whole _) cc1_scratch2 cc1_scoped0 cc1_scoped1 cc1_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hfl : ∀ d x, (fl d x).toNat < 1024) : (K (F := F)).TileObl (D (F := F)) 𝒱₁ (P ft fl fo) v₀ 0 := by
  intro d c i O W hO _ _
  simp only [show (P ft fl fo).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) Variants.none _ Set.univ none _ _)
  rw [defs₀_vector]; simp only [SparseCore.onTile, hci, and_self, ↓reduceDIte]
  exact (task_run d (coordsV ⟨_, hci.1⟩ ⟨_, hci.2⟩) facts (ft d) (fl d) (fo d) (hfl d) O W hO).trans (wp_mono frame _ _ fun _ => obl_post)

end Pay

/-! ## @main's host operations -/

variable [FloatOps F]

section Main

variable (m : (ℓ : Loc nD τ sig) → Buf (Elt F) ℓ) (ρ : Dev nD → PrngReg)

def ops1 : List (HloOp τ sig (Elt F)) :=
  [StableHlo.reshape main_arg0 main_v0 (rfl : (.f32 : EltTy) = .f32) shapeCasts_S8x1024x384_S8192x384]
def ops2 : List (HloOp τ sig (Elt F)) :=
  [StableHlo.nullary main_c (constantI S_ 32 0#32),
   StableHlo.nullary main_c_0 (constantI S_ 32 1023#32),
   StableHlo.TRef.unary (.of main_c) main_call0.v0 id,
   StableHlo.TRef.unary main_call0.v0 main_call0.v1 (broadcastInDim S8192x1 ![] bcast_S_S8192x1),
   StableHlo.TRef.binary main_call0.v1 (.of main_v1_0) main_call0.v2 maxsi,
   StableHlo.TRef.unary (.of main_c_0) main_call0.v3 id,
   StableHlo.TRef.unary main_call0.v3 main_call0.v4 (broadcastInDim S8192x1 ![] bcast_S_S8192x1),
   StableHlo.TRef.binary main_call0.v4 main_call0.v2 main_call0.v5 minsi,
   StableHlo.reshape main_v2 main_v3 (rfl : (.i32 : EltTy) = .i32) shapeCasts_S8192x1_S32x2x128]
def ops3 : List (HloOp τ sig (Elt F)) :=
  [StableHlo.reshape main_v4 main_v5 (rfl : (.f32 : EltTy) = .f32) shapeCasts_S8192x384_S8x1024x384,
   StableHlo.reshape main_v1_2 main_v6 (rfl : (.f32 : EltTy) = .f32) shapeCasts_S1x1_S_,
   StableHlo.reshape main_v1_0 main_v7 (rfl : (.i32 : EltTy) = .i32) shapeCasts_S8192x1_S8x1024]

theorem main_eq (d : Dev nD) :
    main (F := F) d = (StableHlo.seq ops1 >>= fun _ => Prog.lift (.customCall (SparseCore.inner (Pipeline.entry 0)) ()) >>= fun _ =>
      StableHlo.seq ops2 >>= fun _ => sc.run d 0 >>= fun _ => StableHlo.seq ops3 >>= fun _ => pure ⟨⟩) := by
  rfl

/-- The buffers at each stage of @main: at the launch, -/
def W0 (d : Dev nD) : Valuation τ sig (Elt F) := fun b => m (d, b)
/-- before the region, -/
def W1 (d : Dev nD) : Valuation τ sig (Elt F) := StableHlo.after ops1 (W0 m d)
/-- after it, -/
def W2 (d : Dev nD) : Valuation τ sig (Elt F) := regionOut (W1 m) d
/-- before the SparseCore call, -/
def W3 (d : Dev nD) : Valuation τ sig (Elt F) := StableHlo.after ops2 (W2 m d)
/-- the call's table and list, -/
def ftm (d : Dev nD) : S1024x384.Idx → Elt F .f32 := W3 m d (Proc.devRef .tc main_v1_1)
def flm (d : Dev nD) : S32x2x128.Idx → BitVec 32 := W3 m d (Proc.devRef .tc main_v3)
def fom (d : Dev nD) : S8192x384.Idx → Elt F .f32 := W3 m d (Proc.devRef .tc main_v4)
/-- after the call, -/
def W4 (d : Dev nD) : Valuation τ sig (Elt F) := Function.update (W3 m d) (Proc.devRef .tc main_v4) (gathered (ftm m d) (flm m d))
/-- and at the end. -/
def W5 (d : Dev nD) : Valuation τ sig (Elt F) := StableHlo.after ops3 (W4 m d)

theorem flm_eq (d : Dev nD) : flm m d = shapeCast S32x2x128 (minsi (broadcastInDim S8192x1 ![] bcast_S_S8192x1 (constantI S_ 32 1023#32))
    (maxsi (broadcastInDim S8192x1 ![] bcast_S_S8192x1 (constantI S_ 32 0#32)) (W2 m d (Proc.devRef .tc main_v1_0)))) shapeCasts_S8192x1_S32x2x128 := by
  unfold flm W3 ops2
  after_results_simp
  generalize W2 m d (Proc.devRef .tc main_v1_0) = z
  simp only [StableHlo.TRef.ofBuf_toBuf, id]
  simp -implicitDefEqProofs only [StableHlo.TRef.toBuf, StableHlo.TRef.ofBuf, cast_cast, cast_eq]
  rfl

theorem flm_lt (d : Dev nD) (x : S32x2x128.Idx) : (flm m d x).toNat < 1024 := by
  have key : ∀ v : BitVec 32, (IntOp.minsi 1023#32 (IntOp.maxsi 0#32 v)).toNat < 1024 := by
    intro v
    simp only [IntOp.minsi, IntOp.maxsi, BitVec.slt_eq_decide, BitVec.toInt_eq_toNat_cond, decide_eq_true_eq, BitVec.toNat_ofNat, Nat.reducePow, Nat.reduceMod]
    have hv := v.isLt
    split_ifs <;> (try simp only [BitVec.toNat_ofNat, Nat.reducePow, Nat.reduceMod] at *) <;> omega
  rw [flm_eq]
  exact key _

/-! ## The three buffers of the call among the unscoped ones -/

def three : Finset (DevRef τ sig) := {Proc.devRef .tc main_v1_1, Proc.devRef .tc main_v3, Proc.devRef .tc main_v4}
theorem three_sub : three ⊆ ucRefs τ sig := by decide

theorem held_three (d : Dev nD) (V : Valuation τ sig (Elt F)) :
    (StableHlo.held (d.tc : Thread nD τ) three V : sProp 𝕄)
      = wholes d (V (Proc.devRef .tc main_v1_1)) (V (Proc.devRef .tc main_v3)) (V (Proc.devRef .tc main_v4)) := by
  unfold StableHlo.held three
  rw [SparseCore.bigSep_insert' (by decide), SparseCore.bigSep_insert' (by decide), bigSep_singleton]

theorem W4_v4 (d : Dev nD) : W4 m d (Proc.devRef .tc main_v4) = gathered (ftm m d) (flm m d) := by
  unfold W4; rw [Function.update_self]
theorem W4_ne (d : Dev nD) (b : DevRef τ sig) (h : b ≠ Proc.devRef .tc main_v4) : W4 m d b = W3 m d b := by
  unfold W4; rw [Function.update_of_ne h]

theorem held_W3 (d : Dev nD) :
    (StableHlo.held (d.tc : Thread nD τ) (ucRefs τ sig) (W3 m d) : sProp 𝕄)
      = iprop(wholes d (ftm m d) (flm m d) (fom m d) ∗ StableHlo.held (d.tc : Thread nD τ) (ucRefs τ sig \ three) (W3 m d)) := by
  rw [StableHlo.held_sub_split (d.tc : Thread nD τ) three_sub (W3 m d), held_three]; rfl
theorem held_W4 (d : Dev nD) :
    (StableHlo.held (d.tc : Thread nD τ) (ucRefs τ sig) (W4 m d) : sProp 𝕄)
      = iprop(wholes d (ftm m d) (flm m d) (gathered (ftm m d) (flm m d)) ∗ StableHlo.held (d.tc : Thread nD τ) (ucRefs τ sig \ three) (W3 m d)) := by
  rw [StableHlo.held_sub_split (d.tc : Thread nD τ) three_sub (W4 m d), held_three, W4_v4, W4_ne m d (Proc.devRef .tc main_v1_1) (by decide),
    W4_ne m d (Proc.devRef .tc main_v3) (by decide)]
  rw [StableHlo.held_congr (d.tc : Thread nD τ) (V := W4 m d) (V' := W3 m d) fun b hb => W4_ne m d b fun e => (Finset.mem_sdiff.1 hb).2 (e ▸ by decide)]
  rfl

/-! ## @main on the TensorCore -/

/-- The core's handshake state but for what it owes. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) : (K (F := F)).tcSt EH d 0 = (iprop(owesLow d ∗ tcRest d) : sProp 𝕄) := rfl

theorem ops1_sub : ∀ op ∈ (ops1 : List (HloOp τ sig (Elt F))), op.bufs ⊆ ucRefs τ sig := by
  intro op h
  simp only [ops1, List.mem_cons, List.not_mem_nil, or_false] at h
  subst h
  exact Pipeline.sub_ucRefs _ (by simp only [StableHlo.reshape_bufs]; decide)
theorem ops2_sub : ∀ op ∈ (ops2 : List (HloOp τ sig (Elt F))), op.bufs ⊆ ucRefs τ sig := by
  intro op h
  simp only [ops2, List.mem_cons, List.not_mem_nil, or_false] at h
  rcases h with rfl | rfl | rfl | rfl | rfl | rfl | rfl | rfl | rfl <;> exact Pipeline.sub_ucRefs _ (by simp only [StableHlo.TRef.unary, StableHlo.TRef.binary, StableHlo.nullary_bufs, StableHlo.unary_bufs, StableHlo.binary_bufs, StableHlo.reshape_bufs]; decide)
theorem ops3_sub : ∀ op ∈ (ops3 : List (HloOp τ sig (Elt F))), op.bufs ⊆ ucRefs τ sig := by
  intro op h
  simp only [ops3, List.mem_cons, List.not_mem_nil, or_false] at h
  rcases h with rfl | rfl | rfl <;> exact Pipeline.sub_ucRefs _ (by simp only [StableHlo.TRef.unary, StableHlo.TRef.binary, StableHlo.nullary_bufs, StableHlo.unary_bufs, StableHlo.binary_bufs, StableHlo.reshape_bufs]; decide)
theorem ops1_fresh : ∀ op ∈ (ops1 : List (HloOp τ sig (Elt F))), op.fresh = ∅ := by
  intro op h
  simp only [ops1, List.mem_cons, List.not_mem_nil, or_false] at h
  subst h; rfl
theorem ops2_fresh : ∀ op ∈ (ops2 : List (HloOp τ sig (Elt F))), op.fresh = ∅ := by
  intro op h
  simp only [ops2, List.mem_cons, List.not_mem_nil, or_false] at h
  rcases h with rfl | rfl | rfl | rfl | rfl | rfl | rfl | rfl | rfl <;> rfl
theorem ops3_fresh : ∀ op ∈ (ops3 : List (HloOp τ sig (Elt F))), op.fresh = ∅ := by
  intro op h
  simp only [ops3, List.mem_cons, List.not_mem_nil, or_false] at h
  rcases h with rfl | rfl | rfl <;> rfl

abbrev Pm := P (ftm m) (flm m) (fom m)
/-- What @main leaves: every unscoped buffer at its last contents. -/
abbrev FIN (d : Dev nD) : sProp 𝕄 := StableHlo.held (d.tc : Thread nD τ) (ucRefs τ sig) (W5 m d)

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ ghostR d)
      ⊢ wp frame (wpE ((K (F := F)).defs (D (F := F))) 𝒱₁ (SparseCore.T d) none) Set.univ (main d)
          fun _ => iprop((K (F := F)).tcSt EH d 1 ∗ FIN m d ∗ (K (F := F)).tcEnd d) := by
  rw [main_eq]
  unfold SparseCore.Cfg.tcRes SparseCore.Cfg.tcEnd
  rw [show (unscopedBufs d fun b => m ((SparseCore.T d).loc b) : sProp 𝕄) = StableHlo.held (d.tc : Thread nD τ) (ucRefs τ sig) (W0 m d) from
    Pipeline.unscopedBufs_held d (W0 m d)]
  iintro ⟨#Hctx, Hst, ⟨Hb, HU, Hts, -⟩, HG⟩
  ihave #Hlev := (SparseCore.Cfg.ctx_levAts (K := K (F := F)) κ) $$ Hctx
  iapply (StableHlo.wp_seq 𝒱₁ none Set.univ d (ucRefs τ sig) _ ops1 ops1_sub ops1_fresh (W0 m d)) $$ [Hb HU]
  · isplitl [Hb]; · iexact Hb
    iexact HU
  iintro ⟨Hb, HU⟩
  rw [wp_bind]
  ihave Hst := (Entails.of_eq (tcSt_eq d)) $$ Hst
  icases Hst with ⟨Ho, Hst⟩
  iapply (region_wp (W1 m) d _)
  isplitr [Hb HU Ho HG]
  swap
  · isplitl [Hb]; · iexact Hb
    isplitl [HU Ho]
    · isplitl [HU]; · iexact HU
      iexact Ho
    isplitr; · iexact Hlev
    iexact HG
  iintro ⟨Hb, HU, Ho⟩
  ihave Hst := (Entails.of_eq (tcSt_eq d).symm) $$ [Ho Hst]
  · isplitl [Ho]; · iexact Ho
    iexact Hst
  iapply (StableHlo.wp_seq 𝒱₁ none Set.univ d (ucRefs τ sig) _ ops2 ops2_sub ops2_fresh (W2 m d)) $$ [Hb HU]
  · isplitl [Hb]; · iexact Hb
    iexact HU
  iintro ⟨Hb, HU⟩
  ihave HU := (show StableHlo.held (d.tc : Thread nD τ) (ucRefs τ sig) (StableHlo.after ops2 (W2 m d)) ⊢ _ from Entails.of_eq (held_W3 m d)) $$ HU
  icases HU with ⟨HW, HR⟩
  rw [wp_bind]
  iapply ((K (F := F)).wp_run (D (F := F)) 𝒱₁ (EH := EH) (P := Pm m) κ d 0) $$ [Hst HW Hb Hts HR]
  isplitr; · iexact Hctx
  isplitl [Hst]; · iexact Hst
  isplitl [HW]; · rw [st0_eq]; iexact HW
  iintro ⟨Hst, Hdn⟩
  ihave HW := (Entails.of_eq (dn0_eq (ftm m) (flm m) (fom m) d)) $$ Hdn
  ihave HU := (Entails.of_eq (held_W4 m d).symm) $$ [HW HR]
  · isplitl [HW]; · iexact HW
    iexact HR
  iapply (StableHlo.wp_seq 𝒱₁ none Set.univ d (ucRefs τ sig) _ ops3 ops3_sub ops3_fresh (W4 m d)) $$ [Hb HU]
  · isplitl [Hb]; · iexact Hb
    iexact HU
  iintro ⟨Hb, HU⟩
  rw [wp_pure]
  imodintro
  isplitl [Hst]; · iexact Hst
  isplitl [HU]; · iexact HU
  isplitl [Hb]; · iexact Hb
  iexact Hts

/-! ## The program's run -/

def fq (d : Dev nD) (s' : Phys nD τ sig (Elt F)) : Prop := ∀ b ∈ ucRefs τ sig, s'.mem.mem (d, b) = W5 m d b

theorem held_agree (d : Dev nD) (V : Valuation τ sig (Elt F)) (S : Finset (DevRef τ sig)) (s' : Phys nD τ sig (Elt F)) :
    iprop(StableHlo.held (d.tc : Thread nD τ) S V ∗ SI s') ⊢ (⌜∀ b ∈ S, s'.mem.mem (d, b) = V b⌝ : sProp 𝕄) := by
  classical
  induction S using Finset.induction_on with
  | empty => iintro -; ipureintro; exact fun b hb => absurd hb (Finset.notMem_empty b)
  | insert b S hb ih =>
    unfold StableHlo.held at ih ⊢
    rw [SparseCore.bigSep_insert' hb]
    iintro ⟨⟨Hb, HS⟩, HSI⟩
    ihave H := (persistent_entails_right (SI_pointsTo_agree (st := s') (ℓ := (d, b)) (I := Finset.univ) (q := fullShare) (f := V b))) $$ [HSI Hb]
    · isplitl [HSI] <;> iassumption
    icases H with ⟨%h1, HSI, -⟩
    ihave H := ih $$ [HSI HS]
    · isplitl [HS] <;> iassumption
    icases H with %h2
    ipureintro
    intro b' hb'
    rcases Finset.mem_insert.1 hb' with rfl | h
    · exact funext fun i => h1 i (Finset.mem_univ i)
    · exact h2 b' h

theorem hfin (d : Dev nD) (s' : Phys nD τ sig (Elt F)) : iprop(FIN m d ∗ SI s') ⊢ (⌜fq m d s'⌝ : sProp 𝕄) :=
  held_agree d (W5 m d) (ucRefs τ sig) s'

def u₀ : UU := (initOf (K (F := F)).hsCells (K (F := F)).hsToks, (initOf (Pipeline.cells (nD := nD) (τ := τ) cfgs cellOf_inj) (Pipeline.launchToks cfgs cellOf_inj), 1))

theorem bigSep_emp' {I : Type} (s : Finset I) : (bigSep s fun _ => iprop(emp)) = (iprop(emp) : sProp 𝕄) := bigSep_emp_const s

theorem own_EP (x : UP) : (BI.own (((Emb.inl : Emb UP (UP × Counters)).trans (embR : Emb (UP × Counters) 𝕄)) x) : sProp 𝕄) ⊢ BI.own ((EP : Emb UP 𝕄) x) :=
  Entails.of_eq rfl

theorem ghosts_eq : (bigSep Finset.univ fun d : Dev nD => (ghostR d : sProp 𝕄))
    = iprop((bigSep Finset.univ fun c : Dev nD => bigSep Finset.univ fun p : Fin 1 => Pipeline.cellsGhost cfgs EP p c)
      ∗ (bigSep Finset.univ fun c : Dev nD => bigSep Finset.univ fun p : Fin 1 => Pipeline.toksInit cfgs EP p c)) := by
  refine Eq.trans ?_ (bigSep_sep' _ _ _)
  refine bigSep_congr fun d _ => ?_
  rw [bigSep_univ_of_subsingleton (0 : Fin 1), bigSep_univ_of_subsingleton (0 : Fin 1)]
  rfl

theorem hu₀ : (ownU (u₀ (F := F)) : sProp 𝕄)
    ⊢ |={Set.univ}=> iprop(BI.own (EH (initOf (K (F := F)).hsCells (K (F := F)).hsToks)) ∗ (bigSep Finset.univ fun d : Dev nD => ghostR d)
        ∗ bigSep Finset.univ fun thr : Thread nD τ => bigSep Finset.univ fun q : Fin 1 => (Pm m).x q thr) := by
  unfold u₀
  iintro Hu
  ihave H := (ownU_pair (initOf (K (F := F)).hsCells (K (F := F)).hsToks)
    ((initOf (Pipeline.cells (nD := nD) (τ := τ) cfgs cellOf_inj) (Pipeline.launchToks cfgs cellOf_inj), 1) : UP × Counters)) $$ Hu
  icases H with ⟨HH, HR⟩
  ihave H := (own_pair_emb (embR : Emb (UP × Counters) 𝕄) (initOf (Pipeline.cells (nD := nD) (τ := τ) cfgs cellOf_inj) (Pipeline.launchToks cfgs cellOf_inj)) (1 : Counters)) $$ HR
  icases H with ⟨HP, -⟩
  ihave HP := (own_EP _) $$ HP
  imod (Pipeline.fund_ghost (nD := nD) (τ := τ) cfgs (EP : Emb UP 𝕄) cellOf_inj) $$ HP with HP
  icases HP with ⟨Hg, Ht⟩
  imodintro
  isplitl [HH]; · iexact HH
  isplitl [Hg Ht]
  · rw [ghosts_eq]
    isplitl [Hg]; · iexact Hg
    iexact Ht
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_emp']
  iempintro

/-- Every run ends with every unscoped buffer at its last contents and every counter at zero. -/
def QC : PUnit × MemSt nD τ sig (Elt F) → Prop := fun r => (∀ d : Dev nD, ∀ b ∈ ucRefs τ sig, r.2.mem (d, b) = W5 m d b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱₁) (EH := EH) (P := Pm m) (A := ∅) facts v₀
    (fun q hq => match q with | 0 => nomatch hq)
    (fun q _ => match q with | 0 => tileObl (ftm m) (flm m) (fom m) (flm_lt m))
    (fun q _ => match q with | 0 => SparseCore.Cfg.VecSplit.of_plain (vecSplit (ftm m) (flm m) (fom m)))
    m ρ main (fun d => ghostR d) (FIN m) (u₀ (F := F)) (sep_elim_left.trans (hu₀ m)) (hmain m ρ) (fq m) (hfin m) (QC m) (fun _ h hz => ⟨h, hz⟩)

end Main

end Cert.Proof.KI
-- ==== Proof.FrameI.lean ====
/-
  The contents of the arguments and of the results at the end of the run, and that the run leaves its arguments as they were.
-/
module

public import proofs.«01_k».proof.Proof.LaunchI

@[expose] public section

set_option maxRecDepth 16384

noncomputable section

namespace Cert.Proof.KI

open Cert.KernelIdeal Cert.KernelIdeal.Gen

open Idealize.ShloMosaic Idealize.ShloMosaic.TcCoe
open Idealize.ShloMosaic.Pipeline (ucRefs)
open Idealize.SL.Sem

variable {F : FTy → Type} [FloatOps F]
variable (m : (ℓ : Loc nD τ sig) → Buf (Elt F) ℓ) (ρ : Dev nD → PrngReg)

theorem W1_arg2 (d : Dev nD) : W1 m d (Proc.devRef .tc main_arg2) = m ((d.tc : Thread nD τ).loc main_arg2) := by
  unfold W1 ops1; after_results_simp; rfl
theorem W1_arg4 (d : Dev nD) : W1 m d (Proc.devRef .tc main_arg4) = m ((d.tc : Thread nD τ).loc main_arg4) := by
  unfold W1 ops1; after_results_simp; rfl
theorem W1_arg6 (d : Dev nD) : W1 m d (Proc.devRef .tc main_arg6) = m ((d.tc : Thread nD τ).loc main_arg6) := by
  unfold W1 ops1; after_results_simp; rfl
theorem W1_v0 (d : Dev nD) : W1 m d (Proc.devRef .tc main_v0)
    = shapeCast S8192x384 (m ((d.tc : Thread nD τ).loc main_arg0)) shapeCasts_S8x1024x384_S8192x384 := by
  unfold W1 ops1; after_results_simp; rfl

theorem W5_arg0 (d : Dev nD) : W5 m d (Proc.devRef .tc main_arg0) = m ((d.tc : Thread nD τ).loc main_arg0) := by
  unfold W5 ops3; after_results_simp
  rw [W4_ne m d _ (by decide)]; unfold W3 ops2; after_results_simp
  unfold W2; rw [regionOut_ne _ _ _ (by decide) (by decide) (by decide)]; unfold W1 ops1; after_results_simp; rfl
theorem W5_arg1 (d : Dev nD) : W5 m d (Proc.devRef .tc main_arg1) = m ((d.tc : Thread nD τ).loc main_arg1) := by
  unfold W5 ops3; after_results_simp
  rw [W4_ne m d _ (by decide)]; unfold W3 ops2; after_results_simp
  unfold W2; rw [regionOut_ne _ _ _ (by decide) (by decide) (by decide)]; unfold W1 ops1; after_results_simp; rfl
theorem W5_arg2 (d : Dev nD) : W5 m d (Proc.devRef .tc main_arg2) = m ((d.tc : Thread nD τ).loc main_arg2) := by
  unfold W5 ops3; after_results_simp
  rw [W4_ne m d _ (by decide)]; unfold W3 ops2; after_results_simp
  unfold W2; rw [regionOut_ne _ _ _ (by decide) (by decide) (by decide)]; unfold W1 ops1; after_results_simp; rfl
theorem W5_arg3 (d : Dev nD) : W5 m d (Proc.devRef .tc main_arg3) = m ((d.tc : Thread nD τ).loc main_arg3) := by
  unfold W5 ops3; after_results_simp
  rw [W4_ne m d _ (by decide)]; unfold W3 ops2; after_results_simp
  unfold W2; rw [regionOut_ne _ _ _ (by decide) (by decide) (by decide)]; unfold W1 ops1; after_results_simp; rfl
theorem W5_arg4 (d : Dev nD) : W5 m d (Proc.devRef .tc main_arg4) = m ((d.tc : Thread nD τ).loc main_arg4) := by
  unfold W5 ops3; after_results_simp
  rw [W4_ne m d _ (by decide)]; unfold W3 ops2; after_results_simp
  unfold W2; rw [regionOut_ne _ _ _ (by decide) (by decide) (by decide)]; unfold W1 ops1; after_results_simp; rfl
theorem W5_arg5 (d : Dev nD) : W5 m d (Proc.devRef .tc main_arg5) = m ((d.tc : Thread nD τ).loc main_arg5) := by
  unfold W5 ops3; after_results_simp
  rw [W4_ne m d _ (by decide)]; unfold W3 ops2; after_results_simp
  unfold W2; rw [regionOut_ne _ _ _ (by decide) (by decide) (by decide)]; unfold W1 ops1; after_results_simp; rfl
theorem W5_arg6 (d : Dev nD) : W5 m d (Proc.devRef .tc main_arg6) = m ((d.tc : Thread nD τ).loc main_arg6) := by
  unfold W5 ops3; after_results_simp
  rw [W4_ne m d _ (by decide)]; unfold W3 ops2; after_results_simp
  unfold W2; rw [regionOut_ne _ _ _ (by decide) (by decide) (by decide)]; unfold W1 ops1; after_results_simp; rfl

/-- The region's three results, -/
def idxA (d : Dev nD) : S8192x1.Idx → BitVec 32 := (dats (Vof (W1 m)) 0 d).arrAt 4 cfg0.N
def tabA (d : Dev nD) : S1024x384.Idx → Elt F .f32 := (dats (Vof (W1 m)) 0 d).arrAt 5 cfg0.N
def lossA (d : Dev nD) : S1x1.Idx → Elt F .f32 := (dats (Vof (W1 m)) 0 d).arrAt 6 cfg0.N

theorem flm_idx (d : Dev nD) : flm m d = shapeCast S32x2x128 (minsi (broadcastInDim S8192x1 ![] bcast_S_S8192x1 (constantI S_ 32 1023#32))
    (maxsi (broadcastInDim S8192x1 ![] bcast_S_S8192x1 (constantI S_ 32 0#32)) (idxA m d))) shapeCasts_S8192x1_S32x2x128 := by
  rw [flm_eq]; unfold W2; rw [regionOut_0]; rfl
theorem ftm_tab (d : Dev nD) : ftm m d = tabA m d := by
  unfold ftm W3 ops2; after_results_simp
  unfold W2; rw [regionOut_1]; rfl

theorem W5_v5 (d : Dev nD) : W5 m d (Proc.devRef .tc main_v5)
    = shapeCast S8x1024x384 (gathered (tabA m d) (flm m d)) shapeCasts_S8192x384_S8x1024x384 := by
  unfold W5 ops3; after_results_simp
  rw [W4_v4, ftm_tab]; rfl
theorem W5_v6 (d : Dev nD) : W5 m d (Proc.devRef .tc main_v6) = shapeCast S_ (lossA m d) shapeCasts_S1x1_S_ := by
  unfold W5 ops3; after_results_simp
  rw [W4_ne m d _ (by decide)]; unfold W3 ops2; after_results_simp
  unfold W2; rw [regionOut_2]; rfl
theorem W5_v7 (d : Dev nD) : W5 m d (Proc.devRef .tc main_v7) = shapeCast S8x1024 (idxA m d) shapeCasts_S8192x1_S8x1024 := by
  unfold W5 ops3; after_results_simp
  rw [W4_ne m d _ (by decide)]; unfold W3 ops2; after_results_simp
  unfold W2; rw [regionOut_0]; rfl

/-- What a run ends with: the arguments as they were, the results, every counter at zero. -/
def Ends (r : PUnit × MemSt nD τ sig (Elt F)) : Prop :=
  (∀ d : Dev nD, r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6))
  ∧ (r.2.sem = fun _ => 0)
  ∧ ∀ d : Dev nD, r.2.mem ((d.tc : Thread nD τ).loc main_v5) = W5 m d (Proc.devRef .tc main_v5)
    ∧ r.2.mem ((d.tc : Thread nD τ).loc main_v6) = W5 m d (Proc.devRef .tc main_v6)
    ∧ r.2.mem ((d.tc : Thread nD τ).loc main_v7) = W5 m d (Proc.devRef .tc main_v7)

theorem run_ends [∀ e, Nonempty (Elt F e)] :
    θ_run (Cert.KernelIdeal.defs (F := F)) (Cert.KernelIdeal.threads (F := F)) ⟨m, fun _ => 0, ρ⟩ (Ends m) :=
  (θ_run Cert.KernelIdeal.defs _ _).mono (fun _ h => ⟨fun d =>
    ⟨(h.1 d (Proc.devRef .tc main_arg0) (by decide)).trans (W5_arg0 m d), (h.1 d (Proc.devRef .tc main_arg1) (by decide)).trans (W5_arg1 m d), (h.1 d (Proc.devRef .tc main_arg2) (by decide)).trans (W5_arg2 m d),
      (h.1 d (Proc.devRef .tc main_arg3) (by decide)).trans (W5_arg3 m d), (h.1 d (Proc.devRef .tc main_arg4) (by decide)).trans (W5_arg4 m d), (h.1 d (Proc.devRef .tc main_arg5) (by decide)).trans (W5_arg5 m d),
      (h.1 d (Proc.devRef .tc main_arg6) (by decide)).trans (W5_arg6 m d)⟩, h.2,
    fun d => ⟨h.1 d (Proc.devRef .tc main_v5) (by decide), h.1 d (Proc.devRef .tc main_v6) (by decide), h.1 d (Proc.devRef .tc main_v7) (by decide)⟩⟩) (run_main m ρ)

end Cert.Proof.KI
-- ==== Proof.Math.lean ====
/-
  The mathematics of the quantizer on the extended reals, a row at a time: scaling a row to unit length, the projected row,
  the similarities, the first place of the greatest of them, and the squared distance to the row chosen there.
-/
module

public import Idealize.ShloMosaic.Lib.Pointwise
public import Idealize.ShloMosaic.Lib.IdealHost

@[expose] public section

noncomputable section

namespace Cert.Proof.VQ

open Idealize.ShloMosaic

/-- A row of a batch of rows, -/
def rowOf (z : (⟨3, ![8, 1024, 384]⟩ : Shape).Idx → EReal) (b : Fin 8) (l : Fin 1024) : Fin 384 → EReal := fun c => z (ix3 b l c)
/-- and a matrix by its two coordinates. -/
def matOf {a b : Nat} (w : (⟨2, ![a, b]⟩ : Shape).Idx → EReal) : Fin a → Fin b → EReal := fun i j => w (ix2 i j)

/-- The small number under the root. -/
def eps : EReal := Ideal.ofBits .f32 0x358637BD#32

theorem eps_real : ∃ e : ℝ, 0 < e ∧ eps = (e : EReal) := by
  refine ⟨8796093 * (1 / 8796093022208), by positivity, ?_⟩
  simp [eps, Ideal.ofBits, Ideal.ieee]
  norm_num

/-- A row scaled to unit length. -/
def nrm {n : Nat} (x : Fin n → EReal) : Fin n → EReal :=
  fun c => x c * Ideal.rsqrt (max (∑ k, x k * x k) eps)

theorem coe_max (a b : ℝ) : max (a : EReal) (b : EReal) = ((max a b : ℝ) : EReal) := (EReal.coe_strictMono.monotone.map_max).symm

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem rsqrt_pos {r : ℝ} (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr h.le), if_neg h.ne']

theorem sq_nonneg' (x : EReal) : 0 ≤ x * x := by
  induction x using EReal.rec with
  | bot => simp
  | top => simp
  | coe r => rw [← EReal.coe_mul]; exact EReal.coe_nonneg.mpr (mul_self_nonneg r)

/-- Either the squares sum to infinity, or every entry is a real number. -/
theorem sumsq_cases {n : Nat} (x : Fin n → EReal) :
    (∑ k, x k * x k) = ⊤ ∨ ∃ f : Fin n → ℝ, x = fun c => (f c : EReal) := by
  by_cases h : (∑ k, x k * x k) = ⊤
  · exact .inl h
  · refine .inr ⟨fun c => (x c).toReal, funext fun c => ?_⟩
    have hle : x c * x c ≤ ∑ k, x k * x k :=
      Finset.single_le_sum (f := fun k => x k * x k) (fun i _ => sq_nonneg' (x i)) (Finset.mem_univ c)
    have hlt : x c * x c ≠ ⊤ := fun e => h (top_le_iff.mp (e ▸ hle))
    refine (EReal.coe_toReal ?_ ?_).symm
    · intro e; rw [e] at hlt; exact hlt EReal.top_mul_top
    · intro e; rw [e] at hlt; exact hlt EReal.bot_mul_bot

theorem scale_top : Ideal.rsqrt (max (⊤ : EReal) eps) = 0 := by
  rw [max_eq_left le_top]; rfl

/-- A scaled row is real, and its squares sum to the row's own squares times the scale twice. -/
theorem nrm_real {n : Nat} (x : Fin n → EReal) : ∃ f : Fin n → ℝ, nrm x = (fun c => (f c : EReal))
    ∧ (∑ k, x k * x k) * Ideal.rsqrt (max (∑ k, x k * x k) eps) * Ideal.rsqrt (max (∑ k, x k * x k) eps)
        = ((∑ k, f k * f k : ℝ) : EReal) := by
  rcases sumsq_cases x with h | ⟨f, rfl⟩
  · refine ⟨fun _ => 0, funext fun c => ?_, ?_⟩
    · unfold nrm; rw [h, scale_top, mul_zero]; rfl
    · rw [h, scale_top]; simp
  · obtain ⟨e, he, hE⟩ := eps_real
    have hs : (∑ k, (f k : EReal) * (f k : EReal)) = ((∑ k, f k * f k : ℝ) : EReal) := by
      rw [← coe_sum]; exact Finset.sum_congr rfl fun k _ => (EReal.coe_mul _ _).symm
    have hr : Ideal.rsqrt (max ((∑ k, f k * f k : ℝ) : EReal) eps) = (((Real.sqrt (max (∑ k, f k * f k) e))⁻¹ : ℝ) : EReal) := by
      rw [hE, coe_max, rsqrt_pos (lt_max_of_lt_right he)]
    refine ⟨fun c => f c * (Real.sqrt (max (∑ k, f k * f k) e))⁻¹, funext fun c => ?_, ?_⟩
    · unfold nrm; rw [hs, hr, EReal.coe_mul]
    · rw [hs, hr, ← EReal.coe_mul, ← EReal.coe_mul, Finset.sum_mul, Finset.sum_mul]
      refine congrArg _ (Finset.sum_congr rfl fun k _ => by ring)

/-- The projected row. -/
def proj (x : Fin 384 → EReal) (wi : Fin 384 → Fin 64 → EReal) : Fin 64 → EReal := fun d => ∑ c, nrm x c * wi c d
/-- The projected row at unit length. -/
def unit (x : Fin 384 → EReal) (wi : Fin 384 → Fin 64 → EReal) : Fin 64 → EReal := nrm (proj x wi)
/-- The similarity of a unit row to each unit row of the codebook. -/
def sim (q : Fin 64 → EReal) (cb : Fin 1024 → Fin 64 → EReal) : Fin 1024 → EReal := fun k => ∑ d, q d * nrm (cb k) d

theorem sim_real (x wi cb) : ∃ f : Fin 1024 → ℝ, sim (unit x wi) cb = fun k => (f k : EReal) := by
  obtain ⟨q, hq, -⟩ := nrm_real (proj x wi)
  choose c hc _ using fun k => nrm_real (cb k)
  refine ⟨fun k => ∑ d, q d * c k d, funext fun k => ?_⟩
  unfold sim unit; rw [hq, ← coe_sum]
  exact Finset.sum_congr rfl fun d _ => by rw [hc k, EReal.coe_mul]

/-- The first place of the greatest value. -/
def IsWin (s : Fin 1024 → EReal) (w : Fin 1024) : Prop := (∀ j, s j ≤ s w) ∧ ∀ j, j < w → s j < s w

theorem isWin_unique {s : Fin 1024 → EReal} {w w' : Fin 1024} (h : IsWin s w) (h' : IsWin s w') : w = w' := by
  rcases lt_trichotomy w w' with e | e | e
  · exact absurd (h.1 w') (not_le.mpr (h'.2 w e))
  · exact e
  · exact absurd (h'.1 w) (not_le.mpr (h.2 w' e))

theorem exists_win (s : Fin 1024 → EReal) : ∃ w, IsWin s w := by
  classical
  obtain ⟨t, -, ht⟩ := Finset.exists_max_image Finset.univ s ⟨0, Finset.mem_univ _⟩
  let S : Finset (Fin 1024) := Finset.univ.filter fun k => s k = s t
  have hS : S.Nonempty := ⟨t, by simp [S]⟩
  have hm : s (S.min' hS) = s t := (Finset.mem_filter.mp (S.min'_mem hS)).2
  refine ⟨S.min' hS, fun j => hm ▸ ht j (Finset.mem_univ _), fun j hj => ?_⟩
  refine lt_of_le_of_ne (hm ▸ ht j (Finset.mem_univ _)) fun e => ?_
  exact absurd (S.min'_le j (by simp [S, e, hm])) (not_le.mpr hj)

/-- The place chosen. -/
def win (s : Fin 1024 → EReal) : Fin 1024 := (exists_win s).choose
theorem win_spec (s : Fin 1024 → EReal) : IsWin s (win s) := (exists_win s).choose_spec
theorem win_eq {s : Fin 1024 → EReal} {w : Fin 1024} (h : IsWin s w) : w = win s := isWin_unique h (win_spec s)

theorem ofBits_bot : Ideal.ofBits .f32 0xFF800000#32 = ⊥ := by simp [Ideal.ofBits, Ideal.ieee]

/-- The greatest value, as a fold from below everything. -/
theorem fold_max_eq (s : Fin 1024 → EReal) : Finset.fold max (⊥ : EReal) s Finset.univ = s (win s) := by
  refine le_antisymm ?_ ?_
  · rw [Finset.fold_max_le]; exact ⟨bot_le, fun k _ => (win_spec s).1 k⟩
  · rw [Finset.le_fold_max]; exact .inr ⟨_, Finset.mem_univ _, le_rfl⟩

/-- What one row adds to the loss. -/
def dist (x : Fin 384 → EReal) (wi : Fin 384 → Fin 64 → EReal) (cb : Fin 1024 → Fin 64 → EReal) : EReal :=
  ∑ d, (unit x wi d - nrm (cb (win (sim (unit x wi) cb))) d) * (unit x wi d - nrm (cb (win (sim (unit x wi) cb))) d)

theorem dist_real (x wi cb) : ∃ r : ℝ, dist x wi cb = (r : EReal) := by
  obtain ⟨q, hq, -⟩ := nrm_real (proj x wi)
  obtain ⟨c, hc, -⟩ := nrm_real (cb (win (sim (unit x wi) cb)))
  refine ⟨∑ d, (q d - c d) * (q d - c d), ?_⟩
  unfold dist; rw [hc]; unfold unit; rw [hq, ← coe_sum]
  exact Finset.sum_congr rfl fun d _ => by rw [← EReal.coe_sub, ← EReal.coe_mul]

theorem ofBits_two : Ideal.ofBits .f32 0x40000000#32 = ((2 : ℝ) : EReal) := by
  simp [Ideal.ofBits, Ideal.ieee]; norm_num; rw [← EReal.coe_mul]; norm_num
theorem ofBits_q5 : Ideal.ofBits .f32 0x3FA00000#32 = ((5 / 4 : ℝ) : EReal) := by
  simp [Ideal.ofBits, Ideal.ieee]; norm_num; rw [← EReal.coe_mul]; norm_num
theorem ofBits_q1 : Ideal.ofBits .f32 0x3E800000#32 = ((1 / 4 : ℝ) : EReal) := by
  simp [Ideal.ofBits, Ideal.ieee]; norm_num; rw [← EReal.coe_mul]; norm_num
theorem ofBits_cnt : Ideal.ofBits .f32 0x49000000#32 = ((524288 : ℝ) : EReal) := by
  simp [Ideal.ofBits, Ideal.ieee]; norm_num; rw [← EReal.coe_mul]; norm_num
theorem ofBits_64 : Ideal.ofBits .f32 0x42800000#32 = ((64 : ℝ) : EReal) := by
  simp [Ideal.ofBits, Ideal.ieee]; norm_num; rw [← EReal.coe_mul]; norm_num

/-- The row's part of the loss as the kernel forms it, from lengths and the greatest similarity. -/
theorem dist_expand (x wi cb) :
    (∑ k, proj x wi k * proj x wi k) * Ideal.rsqrt (max (∑ k, proj x wi k * proj x wi k) eps)
          * Ideal.rsqrt (max (∑ k, proj x wi k * proj x wi k) eps)
        + (∑ d, nrm (cb (win (sim (unit x wi) cb))) d * nrm (cb (win (sim (unit x wi) cb))) d)
        - Ideal.ofBits .f32 0x40000000#32 * sim (unit x wi) cb (win (sim (unit x wi) cb))
      = dist x wi cb := by
  obtain ⟨q, hq, hs⟩ := nrm_real (proj x wi)
  obtain ⟨c, hc, -⟩ := nrm_real (cb (win (sim (unit x wi) cb)))
  have hsim : sim (unit x wi) cb (win (sim (unit x wi) cb)) = ((∑ d, q d * c d : ℝ) : EReal) := by
    show (∑ d, unit x wi d * nrm (cb (win (sim (unit x wi) cb))) d) = _
    rw [hc]; unfold unit; rw [hq, ← coe_sum]
    exact Finset.sum_congr rfl fun d _ => by rw [EReal.coe_mul]
  have hd : dist x wi cb = ((∑ d, (q d - c d) * (q d - c d) : ℝ) : EReal) := by
    unfold dist; rw [hc]; unfold unit; rw [hq, ← coe_sum]
    exact Finset.sum_congr rfl fun d _ => by rw [← EReal.coe_sub, ← EReal.coe_mul]
  have hcc : (∑ d, nrm (cb (win (sim (unit x wi) cb))) d * nrm (cb (win (sim (unit x wi) cb))) d) = ((∑ d, c d * c d : ℝ) : EReal) := by
    rw [hc, ← coe_sum]; exact Finset.sum_congr rfl fun d _ => by rw [← EReal.coe_mul]
  rw [hs, hcc, hsim, hd, ofBits_two, ← EReal.coe_add, ← EReal.coe_mul, ← EReal.coe_sub]
  refine congrArg _ ?_
  rw [Finset.mul_sum, ← Finset.sum_add_distrib, ← Finset.sum_sub_distrib]
  exact Finset.sum_congr rfl fun d _ => by ring

/-- The straight-through row is the chosen row. -/
theorem ste (x wi) (cb : Fin 1024 → Fin 64 → EReal) (k : Fin 1024) (d : Fin 64) :
    unit x wi d + (nrm (cb k) d - unit x wi d) = nrm (cb k) d := by
  obtain ⟨q, hq, -⟩ := nrm_real (proj x wi)
  obtain ⟨c, hc, -⟩ := nrm_real (cb k)
  rw [hc]; unfold unit; rw [hq, ← EReal.coe_sub, ← EReal.coe_add]
  exact congrArg _ (by ring)

/-- A fold of the lesser of two signed words is among what it folds, and at or below all of it. -/
theorem fold_minsi {ι : Type} (S : Finset ι) (b : BitVec 32) (f : ι → BitVec 32) :
    (Finset.fold IntOp.minsi b f S = b ∨ ∃ i ∈ S, Finset.fold IntOp.minsi b f S = f i)
      ∧ (Finset.fold IntOp.minsi b f S).toInt ≤ b.toInt ∧ ∀ i ∈ S, (Finset.fold IntOp.minsi b f S).toInt ≤ (f i).toInt := by
  classical
  induction S using Finset.induction_on with
  | empty => simp
  | insert a S ha ih =>
    rw [Finset.fold_insert ha]
    obtain ⟨h1, h2, h3⟩ := ih
    generalize Finset.fold IntOp.minsi b f S = z at h1 h2 h3
    have hm : (IntOp.minsi (f a) z = f a ∧ (f a).toInt ≤ z.toInt) ∨ (IntOp.minsi (f a) z = z ∧ z.toInt ≤ (f a).toInt) := by
      unfold IntOp.minsi
      by_cases hl : (f a).slt z
      · left; simp [hl]; rw [BitVec.slt_iff_toInt_lt] at hl; omega
      · right; simp [hl]; rw [BitVec.slt_iff_toInt_lt] at hl; omega
    rcases hm with ⟨e, hle⟩ | ⟨e, hle⟩
    · rw [e]
      refine ⟨.inr ⟨a, Finset.mem_insert_self _ _, rfl⟩, hle.trans h2, fun i hi => ?_⟩
      rcases Finset.mem_insert.mp hi with rfl | hi
      · exact le_rfl
      · exact hle.trans (h3 i hi)
    · rw [e]
      refine ⟨?_, h2, fun i hi => ?_⟩
      · rcases h1 with h1 | ⟨i, hi, h1⟩
        · exact .inl h1
        · exact .inr ⟨i, Finset.mem_insert_of_mem hi, h1⟩
      · rcases Finset.mem_insert.mp hi with rfl | hi
        · exact hle
        · exact h3 i hi

/-- The number of a place, as a signed word, is the place. -/
theorem ofNat_toInt (k : Fin 1024) : (BitVec.ofNat 32 k.val).toInt = (k.val : Int) := by
  have := k.isLt
  have h : (BitVec.ofNat 32 k.val).toNat = k.val := by rw [BitVec.toNat_ofNat]; omega
  rw [BitVec.toInt_eq_toNat_of_lt (by omega), h]

/-- The least number among the places of the greatest value is the first of them. -/
theorem fold_first (s : Fin 1024 → EReal) (M : EReal) (hM : M = s (win s)) :
    Finset.fold IntOp.minsi 2147483647#32
        (fun k : Fin 1024 => Scalar.select (BitVec.ofBool (decide (s k = M))) (BitVec.ofNat 32 k.val) 1024#32) Finset.univ
      = BitVec.ofNat 32 (win s).val := by
  subst hM
  obtain ⟨h1, -, h3⟩ := fold_minsi Finset.univ 2147483647#32
    (fun k : Fin 1024 => Scalar.select (BitVec.ofBool (decide (s k = s (win s)))) (BitVec.ofNat 32 k.val) 1024#32)
  generalize Finset.fold IntOp.minsi 2147483647#32 _ _ = z at h1 h3
  have hw := h3 (win s) (Finset.mem_univ _)
  have hwin : (Scalar.select (BitVec.ofBool (decide (s (win s) = s (win s)))) (BitVec.ofNat 32 (win s).val) 1024#32 : BitVec 32)
      = BitVec.ofNat 32 (win s).val := by simp [Scalar.select]
  rw [hwin, ofNat_toInt] at hw
  have hlt := (win s).isLt
  rcases h1 with rfl | ⟨k, -, rfl⟩
  · exfalso; have : (2147483647#32 : BitVec 32).toInt = 2147483647 := by decide
    omega
  · by_cases hk : s k = s (win s)
    · have e : (Scalar.select (BitVec.ofBool (decide (s k = s (win s)))) (BitVec.ofNat 32 k.val) 1024#32 : BitVec 32)
          = BitVec.ofNat 32 k.val := by simp [Scalar.select, hk]
      rw [e, ofNat_toInt] at hw
      rw [e]
      have : ¬ k < win s := fun h => absurd hk ((win_spec s).2 k h).ne
      have : k = win s := by apply Fin.ext; rw [Fin.lt_def] at this; omega
      rw [this]
    · exfalso
      have e : (Scalar.select (BitVec.ofBool (decide (s k = s (win s)))) (BitVec.ofNat 32 k.val) 1024#32 : BitVec 32) = 1024#32 := by
        simp [Scalar.select, hk]
      rw [e] at hw
      have : (1024#32 : BitVec 32).toInt = 1024 := by decide
      omega

/-- With one place of the greatest value, a sum kept only at the places of the greatest value is its entry there. -/
theorem sum_at_win (s g : Fin 1024 → EReal) (M : EReal) (hM : M = s (win s)) (h1 : ∀ k, k ≠ win s → s k < s (win s)) :
    (∑ k, Scalar.select (BitVec.ofBool (decide (s k = M))) (g k) 0) = g (win s) := by
  subst hM
  rw [Finset.sum_eq_single (win s)]
  · simp [Scalar.select]
  · intro k _ hk; simp [Scalar.select, (h1 k hk).ne]
  · intro h; exact absurd (Finset.mem_univ _) h

/-- The mean over every row and lane, weighted once and a quarter. -/
theorem loss_eq (S : ℝ) :
    Ideal.div (Ideal.ofBits .f32 0x3FA00000#32 * (S : EReal)) (Ideal.ofBits .f32 0x49000000#32)
      = Ideal.div (S : EReal) ((524288 : ℝ) : EReal) + Ideal.ofBits .f32 0x3E800000#32 * Ideal.div (S : EReal) ((524288 : ℝ) : EReal) := by
  have hne : ((524288 : ℝ) : EReal) ≠ 0 := by
    intro h; have := EReal.coe_eq_zero.mp h; norm_num at this
  rw [ofBits_q5, ofBits_cnt, ofBits_q1]
  unfold Ideal.div
  rw [if_neg hne, if_neg hne, ← EReal.coe_inv, ← EReal.coe_mul, ← EReal.coe_mul, ← EReal.coe_mul, ← EReal.coe_mul, ← EReal.coe_add]
  exact congrArg _ (by ring)

end Cert.Proof.VQ
-- ==== Proof.ValI.lean ====
/-
  What the kernel leaves, read at an index: the chosen places, the projected table, the loss.
-/
module

public import proofs.«01_k».proof.Proof.FrameI
public import proofs.«01_k».proof.Proof.Math
public import Idealize.ShloMosaic.Lib.Pipeline.ValueKit

@[expose] public section

set_option maxRecDepth 16384

noncomputable section

namespace Cert.Proof.KI

open Cert.KernelIdeal Cert.KernelIdeal.Gen Cert.Proof.VQ
open Idealize.ShloMosaic Idealize.ShloMosaic.TcCoe
open Idealize.SL.Sem

variable (m : (ℓ : Loc nD τ sig) → Buf (Elt Ideal) ℓ) (d : Dev nD)

/-- The arguments by their coordinates: the rows, -/
abbrev zR (b : Fin 8) (l : Fin 1024) : Fin 384 → EReal := rowOf (m ((d.tc : Thread nD τ).loc main_arg0)) b l
/-- the projections, -/
abbrev wiR : Fin 384 → Fin 64 → EReal := matOf (m ((d.tc : Thread nD τ).loc main_arg2))
abbrev woR : Fin 64 → Fin 384 → EReal := matOf (m ((d.tc : Thread nD τ).loc main_arg4))
/-- the codebook. -/
abbrev cbR : Fin 1024 → Fin 64 → EReal := matOf (m ((d.tc : Thread nD τ).loc main_arg6))

/-- The contents the region starts from. -/
abbrev V1 := Vof (W1 m)

theorem ix_w0 (t : Fin cfg0.N) : win0_0.index t = ![t.val, 0] := (by decide +kernel : ∀ t : Fin grid0.N, win0_0.index t = ![t.val, 0]) t
theorem ix_w1 (t : Fin cfg0.N) : win0_1.index t = ![0, 0] := (by decide +kernel : ∀ t : Fin grid0.N, win0_1.index t = ![0, 0]) t
theorem ix_w2 (t : Fin cfg0.N) : win0_2.index t = ![0, 0] := (by decide +kernel : ∀ t : Fin grid0.N, win0_2.index t = ![0, 0]) t
theorem ix_w3 (t : Fin cfg0.N) : win0_3.index t = ![0, 0] := (by decide +kernel : ∀ t : Fin grid0.N, win0_3.index t = ![0, 0]) t
theorem ix_w4 (t : Fin cfg0.N) : win0_4.index t = ![t.val, 0] := (by decide +kernel : ∀ t : Fin grid0.N, win0_4.index t = ![t.val, 0]) t
theorem ix_w5 (t : Fin cfg0.N) : win0_5.index t = ![0, 0] := (by decide +kernel : ∀ t : Fin grid0.N, win0_5.index t = ![0, 0]) t
theorem ix_w6 (t : Fin cfg0.N) : win0_6.index t = ![0, 0] := (by decide +kernel : ∀ t : Fin grid0.N, win0_6.index t = ![0, 0]) t

/-- The row of the batch at place `r` of block `t`. -/
def bOf (t : Fin cfg0.N) (r : Fin 512) : Fin 8 := ⟨(512 * t.val + r.val) / 1024, by have := t_lt t; omega⟩
def lOf (t : Fin cfg0.N) (r : Fin 512) : Fin 1024 := ⟨(512 * t.val + r.val) % 1024, by omega⟩

theorem rows_apply (z : S8x1024x384.Idx → EReal) (r : Fin 8192) (c : Fin 384) :
    shapeCast (α := EReal) S8192x384 z shapeCasts_S8x1024x384_S8192x384 (ix2 r c)
      = z (ix3 (⟨r.val / 1024, by omega⟩ : Fin 8) (⟨r.val % 1024, by omega⟩ : Fin 1024) c) := by
  pointwise

theorem emb_w0 (t : Fin cfg0.N) (r : Fin 512) (c : Fin 384) :
    (win0_0.blk t).view.emb (ix2 r c) = ix2 (⟨512 * t.val + r.val, by have := t_lt t; omega⟩ : Fin 8192) c := by
  blk_ext [ix_w0 t]

theorem xB_apply (t : Fin cfg0.N) (r : Fin 512) (c : Fin 384) : xB (V1 m) d t (ix2 r c) = zR m d (bOf t r) (lOf t r) c := by
  show (win0_0.blk t).view.read (Elt Ideal) (V1 m d main_v0) (ix2 r c) = _
  blk_simp
  rw [emb_w0]
  exact (congrFun (W1_v0 m d) _).trans (rows_apply _ _ _)

theorem wiB_apply (t : Fin cfg0.N) (c : Fin 384) (e : Fin 64) : wiB (V1 m) d t (ix2 c e) = wiR m d c e := by
  show (win0_1.blk t).view.read (Elt Ideal) (V1 m d main_arg2) (ix2 c e) = _
  blk_simp
  have hi : (win0_1.blk t).view.emb (ix2 c e) = ix2 c e := by blk_ext [ix_w1 t]
  rw [hi]
  exact congrFun (W1_arg2 m d) _
theorem woB_apply (e : Fin 64) (c : Fin 384) : woB (V1 m) d (ix2 e c) = woR m d e c := by
  show (win0_2.blk t0_0).view.read (Elt Ideal) (V1 m d main_arg4) (ix2 e c) = _
  blk_simp
  have hi : (win0_2.blk t0_0).view.emb (ix2 e c) = ix2 e c := by blk_ext [ix_w2 t0_0]
  rw [hi]
  exact congrFun (W1_arg4 m d) _
theorem cbB_apply (k : Fin 1024) (e : Fin 64) : cbB (V1 m) d (ix2 k e) = cbR m d k e := by
  show (win0_3.blk t0_0).view.read (Elt Ideal) (V1 m d main_arg6) (ix2 k e) = _
  blk_simp
  have hi : (win0_3.blk t0_0).view.emb (ix2 k e) = ix2 k e := by blk_ext [ix_w3 t0_0]
  rw [hi]
  exact congrFun (W1_arg6 m d) _

/-- The unit codebook, its squared lengths, the projected table. -/
theorem cbnB_apply (k : Fin 1024) (e : Fin 64) : cbnB (V1 m) d (ix2 k e) = nrm (cbR m d k) e := by
  unfold cbnB
  pointwise [k0_pay4, k0_pay3]
  simp only [cbB_apply]; rfl
theorem cbn2B_apply (k : Fin 1024) : cbn2B (V1 m) d (ix2 0 k) = ∑ e, nrm (cbR m d k) e * nrm (cbR m d k) e := by
  unfold cbn2B
  pointwise [k0_pay5, k0_pay3]
  simp only [cbB_apply]; rfl
theorem tabB_apply (k : Fin 1024) (c : Fin 384) : tabB (V1 m) d (ix2 k c) = ∑ e, nrm (cbR m d k) e * woR m d e c := by
  unfold tabB
  pointwise [k0_pay6, k0_pay3]
  simp only [cbB_apply, woB_apply]; rfl

/-- The projected rows, their squared lengths and scales. -/
theorem pay7_apply (t : Fin cfg0.N) (r : Fin 512) (e : Fin 64) :
    k0_pay7 (F := Ideal) (xB (V1 m) d t) (wiB (V1 m) d t) (ix2 r e) = proj (zR m d (bOf t r) (lOf t r)) (wiR m d) e := by
  pointwise [k0_pay7]
  simp only [xB_apply, wiB_apply]; rfl
theorem pay8_apply (t : Fin cfg0.N) (r : Fin 512) :
    k0_pay8 (F := Ideal) (xB (V1 m) d t) (wiB (V1 m) d t) (ix2 r 0)
      = ∑ e, proj (zR m d (bOf t r) (lOf t r)) (wiR m d) e * proj (zR m d (bOf t r) (lOf t r)) (wiR m d) e := by
  pointwise [k0_pay8]
  simp only [pay7_apply]
theorem pay9_apply (t : Fin cfg0.N) (r : Fin 512) :
    k0_pay9 (F := Ideal) (xB (V1 m) d t) (wiB (V1 m) d t) (ix2 r 0)
      = Ideal.rsqrt (max (∑ e, proj (zR m d (bOf t r) (lOf t r)) (wiR m d) e * proj (zR m d (bOf t r) (lOf t r)) (wiR m d) e) eps) := by
  pointwise [k0_pay9]
  simp only [pay8_apply]; rfl
theorem pay10_apply (t : Fin cfg0.N) (r : Fin 512) (k : Fin 1024) :
    k0_pay10 (F := Ideal) (xB (V1 m) d t) (wiB (V1 m) d t) (cbnB (V1 m) d) (ix2 r k)
      = sim (unit (zR m d (bOf t r) (lOf t r)) (wiR m d)) (cbR m d) k := by
  pointwise [k0_pay10]
  simp only [pay7_apply, pay9_apply, cbnB_apply]; rfl

/-- The similarities of the row at place `r` of block `t`. -/
abbrev simR (b : Fin 8) (l : Fin 1024) : Fin 1024 → EReal := sim (unit (zR m d b l) (wiR m d)) (cbR m d)

theorem pay11_apply (t : Fin cfg0.N) (r : Fin 512) :
    k0_pay11 (F := Ideal) (xB (V1 m) d t) (wiB (V1 m) d t) (cbnB (V1 m) d) (ix2 r 0)
      = simR m d (bOf t r) (lOf t r) (win (simR m d (bOf t r) (lOf t r))) := by
  pointwise [k0_pay11]
  simp only [pay10_apply]
  rw [show Ideal.ofBits FTy.f32 4286578688#32 = ⊥ from ofBits_bot, fold_max_eq]
theorem pay12_apply (t : Fin cfg0.N) (r : Fin 512) (k : Fin 1024) :
    k0_pay12 (F := Ideal) (xB (V1 m) d t) (wiB (V1 m) d t) (cbnB (V1 m) d) (ix2 r k)
      = BitVec.ofBool (decide (simR m d (bOf t r) (lOf t r) k = simR m d (bOf t r) (lOf t r) (win (simR m d (bOf t r) (lOf t r))))) := by
  pointwise [k0_pay12]
  simp only [pay10_apply, pay11_apply]
theorem idxB_apply (t : Fin cfg0.N) (r : Fin 512) :
    idxB (V1 m) d t (ix2 r 0) = BitVec.ofNat 32 (win (simR m d (bOf t r) (lOf t r))).val := by
  unfold idxB
  pointwise [k0_pay13]
  simp only [pay12_apply]
  exact fold_first _ _ rfl
theorem pay14_apply (t : Fin cfg0.N) (r : Fin 512) :
    k0_pay14 (F := Ideal) (xB (V1 m) d t) (wiB (V1 m) d t) (ix2 r 0)
      = (∑ e, proj (zR m d (bOf t r) (lOf t r)) (wiR m d) e * proj (zR m d (bOf t r) (lOf t r)) (wiR m d) e)
        * Ideal.rsqrt (max (∑ e, proj (zR m d (bOf t r) (lOf t r)) (wiR m d) e * proj (zR m d (bOf t r) (lOf t r)) (wiR m d) e) eps)
        * Ideal.rsqrt (max (∑ e, proj (zR m d (bOf t r) (lOf t r)) (wiR m d) e * proj (zR m d (bOf t r) (lOf t r)) (wiR m d) e) eps) := by
  pointwise [k0_pay14]
  simp only [pay8_apply, pay9_apply]

/-! ## The arrays -/

theorem tabA_apply (k : Fin 1024) (c : Fin 384) : tabA m d (ix2 k c) = ∑ e, nrm (cbR m d k) e * woR m d e c := by
  have h : tabA m d = fun j => tabB (V1 m) d j := by
    unfold tabA
    refine (dats (V1 m) 0 d).arrAt_eq_of_after_last 5 ⟨15, by decide⟩ (by decide +kernel) _ fun j => ?_
    blk_simp
    exact congrFun (after5 (V1 m) d _) j
  rw [h]; exact tabB_apply m d k c

theorem lossA_apply : lossA m d (ix2 0 0) = k0_pay2 (F := Ideal) (accAt (V1 m) d 16) := by
  have h : lossA m d = fun j => lossB (V1 m) d j := by
    unfold lossA
    refine (dats (V1 m) 0 d).arrAt_eq_of_after_last 6 ⟨15, by decide⟩ (by decide +kernel) _ fun j => ?_
    blk_simp
    exact congrFun (after6 (V1 m) d _) j
  rw [h]; rfl

/-- The chosen places, row by row. -/
def idxF : S8192x1.Idx → BitVec 32 := fun j =>
  BitVec.ofNat 32 (win (simR m d ⟨(j 0).val / 1024, by have : (j 0).val < 8192 := (j 0).isLt; omega⟩ ⟨(j 0).val % 1024, by omega⟩)).val

theorem idxF_apply (r : Fin 8192) : idxF m d (ix2 r 0)
    = BitVec.ofNat 32 (win (simR m d ⟨r.val / 1024, by omega⟩ ⟨r.val % 1024, by omega⟩)).val := rfl

theorem emb_w4 (t : Fin cfg0.N) (r : Fin 512) :
    (win0_4.blk t).view.emb (ix2 r 0) = ix2 (⟨512 * t.val + r.val, by have := t_lt t; omega⟩ : Fin 8192) 0 := by
  blk_ext [ix_w4 t]

theorem idxA_eq : idxA m d = idxF m d := by
  unfold idxA
  refine (dats (V1 m) 0 d).arrAt_eq_of_covers 4 _ (by decide +kernel) fun t hf y => ?_
  blk_simp
  rw [after4]
  obtain ⟨r, z, rfl⟩ : ∃ (r : Fin 512) (z : Fin 1), y = ix2 r z := ⟨y 0, y 1, eq_ix2 y⟩
  obtain rfl : z = 0 := Subsingleton.elim _ _
  rw [emb_w4, idxF_apply]
  exact idxB_apply m d t r

theorem idxA_apply (r : Fin 8192) : idxA m d (ix2 r 0)
    = BitVec.ofNat 32 (win (simR m d ⟨r.val / 1024, by omega⟩ ⟨r.val % 1024, by omega⟩)).val := by
  rw [idxA_eq]; rfl

end Cert.Proof.KI
-- ==== Proof.ValI2.lean ====
/-
  The three results of the kernel at an index: the rows, the loss, the places.
-/
module

public import proofs.«01_k».proof.Proof.ValI

@[expose] public section

set_option maxRecDepth 16384

noncomputable section

namespace Cert.Proof.KI

open Cert.KernelIdeal Cert.KernelIdeal.Gen Cert.Proof.VQ
open Idealize.ShloMosaic Idealize.ShloMosaic.TcCoe
open Idealize.SL.Sem

variable (m : (ℓ : Loc nD τ sig) → Buf (Elt Ideal) ℓ) (d : Dev nD)

/-- The place chosen for a row, -/
abbrev winR (b : Fin 8) (l : Fin 1024) : Fin 1024 := win (simR m d b l)

/-- every row has one greatest similarity, -/
def OneWinner : Prop := ∀ (b : Fin 8) (l : Fin 1024) (k : Fin 1024), k ≠ winR m d b l → simR m d b l k < simR m d b l (winR m d b l)

/-- and the squared distance to the chosen row. -/
abbrev distR (b : Fin 8) (l : Fin 1024) : EReal := dist (zR m d b l) (wiR m d) (cbR m d)

theorem pay1_apply (mx : Vec Ideal S512x1 .f32) (eq : Vec Ideal S512x1024 .i1) (hq : Vec Ideal S512x1 .f32) (cbn2 : Vec Ideal S1x1024 .f32)
    (acc : EReal) : (k0_pay1 (F := Ideal) mx eq hq cbn2 acc : EReal) = acc + ∑ r : Fin 512,
      ((hq (ix2 r 0) : EReal) + (∑ k : Fin 1024, Scalar.select (eq (ix2 r k)) (cbn2 (ix2 0 k) : EReal) 0) - Ideal.ofBits .f32 0x40000000#32 * mx (ix2 r 0)) := by
  pointwise [k0_pay1]
  simp only [Fin.sum_univ_one]
  try rfl

theorem step_apply (H : OneWinner m d) (t : Fin cfg0.N) (a : EReal) :
    (accStep (F := Ideal) (xB (V1 m) d t) (wiB (V1 m) d t) (cbnB (V1 m) d) (cbn2B (V1 m) d) a : EReal)
      = a + ∑ r : Fin 512, distR m d (bOf t r) (lOf t r) := by
  unfold accStep
  rw [pay1_apply]
  refine congrArg (a + ·) (Finset.sum_congr rfl fun r _ => ?_)
  show _ = VQ.dist _ _ _
  rw [← dist_expand, pay14_apply, pay11_apply]
  simp only [pay12_apply, cbn2B_apply]
  rw [sum_at_win _ (fun k => ∑ e, nrm (cbR m d k) e * nrm (cbR m d k) e) _ rfl (H (bOf t r) (lOf t r))]

/-- The distance of a row counted along the batch. -/
def distN (i : ℕ) : EReal := distR m d ⟨i / 1024 % 8, by omega⟩ ⟨i % 1024, by omega⟩

theorem distN_of (t : Fin cfg0.N) (r : Fin 512) : distR m d (bOf t r) (lOf t r) = distN m d (t.val * 512 + r.val) := by
  have ht := t_lt t
  have e1 : bOf t r = ⟨(t.val * 512 + r.val) / 1024 % 8, by omega⟩ :=
    Fin.ext (by show (512 * t.val + r.val) / 1024 = (t.val * 512 + r.val) / 1024 % 8; omega)
  have e2 : lOf t r = ⟨(t.val * 512 + r.val) % 1024, by omega⟩ :=
    Fin.ext (by show (512 * t.val + r.val) % 1024 = (t.val * 512 + r.val) % 1024; omega)
  rw [e1, e2]; rfl

theorem acc_sum (H : OneWinner m d) (n : ℕ) (hn : n ≤ 16) :
    (accAt (V1 m) d n : EReal) = ∑ t ∈ Finset.range n, ∑ r ∈ Finset.range 512, distN m d (t * 512 + r) := by
  induction n with
  | zero => rw [Finset.sum_range_zero]; show Ideal.ofBits .f32 0x00000000#32 = 0; exact Ideal.ofBits_zero .f32
  | succ n ih =>
    have hN : n < cfg0.N := hn
    rw [Finset.sum_range_succ, ← ih (by omega)]
    refine (accAt_succ (V1 m) d ⟨n, hN⟩).trans ((step_apply m d H ⟨n, hN⟩ _).trans ?_)
    refine congrArg (accAt (V1 m) d n + ·) ?_
    rw [← Fin.sum_univ_eq_sum_range (fun r => distN m d (n * 512 + r))]
    exact Finset.sum_congr rfl fun r _ => distN_of m d ⟨n, hN⟩ r

theorem acc_total (H : OneWinner m d) : (accAt (V1 m) d 16 : EReal) = ∑ b : Fin 8, ∑ l : Fin 1024, distR m d b l := by
  rw [acc_sum m d H 16 le_rfl, Finset.sum_range_range_mul_add 16 512 (distN m d),
    show 16 * 512 = 8 * 1024 from rfl, ← Finset.sum_range_range_mul_add 8 1024 (distN m d),
    ← Fin.sum_univ_eq_sum_range (fun b => ∑ l ∈ Finset.range 1024, distN m d (b * 1024 + l))]
  refine Finset.sum_congr rfl fun b _ => ?_
  rw [← Fin.sum_univ_eq_sum_range (fun l => distN m d (b.val * 1024 + l))]
  refine Finset.sum_congr rfl fun l _ => ?_
  have e1 : (⟨(b.val * 1024 + l.val) / 1024 % 8, by omega⟩ : Fin 8) = b :=
    Fin.ext (by show (b.val * 1024 + l.val) / 1024 % 8 = b.val; omega)
  have e2 : (⟨(b.val * 1024 + l.val) % 1024, by omega⟩ : Fin 1024) = l :=
    Fin.ext (by show (b.val * 1024 + l.val) % 1024 = l.val; omega)
  unfold distN
  rw [e1, e2]

theorem dist_total : ∃ S : ℝ, (∑ b : Fin 8, ∑ l : Fin 1024, distR m d b l) = (S : EReal) := by
  choose f hf using fun (b : Fin 8) (l : Fin 1024) => dist_real (zR m d b l) (wiR m d) (cbR m d)
  refine ⟨∑ b, ∑ l, f b l, ?_⟩
  simp only [distR, hf, coe_sum]

/-- The loss. -/
theorem loss_val (H : OneWinner m d) (i) : (W5 m d (Proc.devRef .tc main_v6) i : EReal)
    = Ideal.div (∑ b : Fin 8, ∑ l : Fin 1024, distR m d b l) ((524288 : ℝ) : EReal)
      + Ideal.ofBits .f32 0x3E800000#32 * Ideal.div (∑ b : Fin 8, ∑ l : Fin 1024, distR m d b l) ((524288 : ℝ) : EReal) := by
  have hl : (lossA m d (ix2 0 0) : EReal) = Ideal.div (Ideal.ofBits .f32 0x3FA00000#32 * accAt (V1 m) d 16) (Ideal.ofBits .f32 0x49000000#32) := by
    rw [lossA_apply]
    generalize accAt (V1 m) d 16 = a
    pointwise [k0_pay2]
  obtain ⟨S, hS⟩ := dist_total m d
  rw [acc_total m d H, hS, loss_eq] at hl
  rw [hS, ← hl, W5_v6]
  generalize lossA m d = I
  pointwise

/-- The places. -/
theorem place_val (b : Fin 8) (l : Fin 1024) :
    (W5 m d (Proc.devRef .tc main_v7) (ix2 b l) : BitVec 32) = BitVec.ofNat 32 (winR m d b l).val := by
  have h := idxA_apply m d ⟨b.val * 1024 + l.val, by omega⟩
  rw [W5_v7]
  generalize idxA m d = I at h ⊢
  pointwise
  rw [h]
  have e1 : (⟨(b.val * 1024 + l.val) / 1024, by omega⟩ : Fin 8) = b := Fin.ext (by show (b.val * 1024 + l.val) / 1024 = b.val; omega)
  have e2 : (⟨(b.val * 1024 + l.val) % 1024, by omega⟩ : Fin 1024) = l := Fin.ext (by show (b.val * 1024 + l.val) % 1024 = l.val; omega)
  rw [e1, e2]

/-- A place below 1024 is left alone by the clamp. -/
theorem clamp_place (w : Fin 1024) :
    (IntOp.minsi 1023#32 (IntOp.maxsi 0#32 (BitVec.ofNat 32 w.val))).toNat % 1024 = w.val := by
  have hw := w.isLt
  have hn : (BitVec.ofNat 32 w.val).toNat = w.val := by rw [BitVec.toNat_ofNat]; omega
  have h0 : (BitVec.ofNat 32 w.val).toInt = w.val := by rw [BitVec.toInt_eq_toNat_of_lt (by omega), hn]
  have e1 : IntOp.maxsi 0#32 (BitVec.ofNat 32 w.val) = BitVec.ofNat 32 w.val := by
    unfold IntOp.maxsi
    rw [if_neg]
    rw [BitVec.slt, h0]; simp
  have e2 : IntOp.minsi 1023#32 (BitVec.ofNat 32 w.val) = BitVec.ofNat 32 w.val := by
    unfold IntOp.minsi
    rw [if_neg]
    rw [BitVec.slt, h0, show (1023#32 : BitVec 32).toInt = 1023 from by decide]; simp; omega
  rw [e1, e2, hn]; omega

end Cert.Proof.KI
-- ==== Proof.ValI3.lean ====
/-
  The rows of the kernel at an index.
-/
module

public import proofs.«01_k».proof.Proof.ValI2

@[expose] public section

set_option maxRecDepth 16384

noncomputable section

namespace Cert.Proof.KI

open Cert.KernelIdeal Cert.KernelIdeal.Gen Cert.Proof.VQ
open Idealize.ShloMosaic Idealize.ShloMosaic.TcCoe
open Idealize.SL.Sem

variable (m : (ℓ : Loc nD τ sig) → Buf (Elt Ideal) ℓ) (d : Dev nD)

/-- The row a clamped place names is that place's. -/
theorem read_row (T : S1024x384.Idx → EReal) (w : Fin 1024) (v : BitVec 32) (hv : v = BitVec.ofNat 32 w.val)
    (p : (IntOp.minsi 1023#32 (IntOp.maxsi 0#32 v)).toNat % 1024 < 1024) (c : Fin 384) :
    T (ValueIdx.ix2 ⟨(IntOp.minsi 1023#32 (IntOp.maxsi 0#32 v)).toNat % 1024, p⟩ c) = T (ix2 w c) := by
  subst hv
  have e : (⟨(IntOp.minsi 1023#32 (IntOp.maxsi 0#32 (BitVec.ofNat 32 w.val))).toNat % 1024, p⟩ : Fin 1024) = w := Fin.ext (clamp_place w)
  rw [e]
  rfl

/-- The chosen place, read where the list holds it. -/
theorem place_at (b : Fin 8) (l : Fin 1024) (p : Fin 8192) (hp : p.val = b.val * 1024 + l.val) :
    idxA m d (ix2 p 0) = BitVec.ofNat 32 (winR m d b l).val := by
  have h := idxA_apply m d p
  have e1 : (⟨p.val / 1024, by omega⟩ : Fin 8) = b := Fin.ext (by show p.val / 1024 = b.val; omega)
  have e2 : (⟨p.val % 1024, by omega⟩ : Fin 1024) = l := Fin.ext (by show p.val % 1024 = l.val; omega)
  rw [e1, e2] at h
  exact h

theorem split_place (n : ℕ) : n / 256 * 256 + n / 128 % 2 * 128 + n % 128 = n := by omega

/-- The rows. -/
theorem row_val (b : Fin 8) (l : Fin 1024) (c : Fin 384) :
    (W5 m d (Proc.devRef .tc main_v5) (ix3 b l c) : EReal) = ∑ e, nrm (cbR m d (winR m d b l)) e * woR m d e c := by
  rw [← tabA_apply m d (winR m d b l) c, W5_v5, flm_idx]
  have hp := fun p h => place_at m d b l p h
  generalize winR m d b l = w at hp ⊢
  generalize idxA m d = I at hp ⊢
  generalize tabA m d = T
  pointwise [gathered]
  exact read_row T w _ (hp _ (split_place _)) _ c

end Cert.Proof.KI
-- ==== Proof.Places.lean ====
/-
  Two host operations at an index: the place of the greatest value of a row, and the rows of a table at given places.
-/
module

public import proofs.«01_k».proof.Proof.Math

@[expose] public section

set_option maxRecDepth 16384

noncomputable section

namespace Cert.Proof.VQ

open Idealize.ShloMosaic

/-! ## The place of the greatest value -/

/-- The left pair stays: its value is greater, or the same at an earlier place. -/
def Stays (a b : EReal × BitVec 32) : Prop := b.1 < a.1 ∨ (a.1 = b.1 ∧ a.2.toInt < b.2.toInt)

/-- `q` is no better than `r`. -/
def Below (q r : EReal × BitVec 32) : Prop := q.1 < r.1 ∨ (q.1 = r.1 ∧ r.2.toInt ≤ q.2.toInt)

theorem below_refl (q : EReal × BitVec 32) : Below q q := Or.inr ⟨rfl, le_rfl⟩
theorem below_trans {p q r : EReal × BitVec 32} (h : Below p q) (h' : Below q r) : Below p r := by
  rcases h with h | ⟨h, k⟩ <;> rcases h' with h' | ⟨h', k'⟩
  · exact Or.inl (h.trans h')
  · exact Or.inl (h' ▸ h)
  · exact Or.inl (h ▸ h')
  · exact Or.inr ⟨h.trans h', k'.trans k⟩
theorem below_of_stays {a b : EReal × BitVec 32} (h : Stays a b) : Below b a := by
  rcases h with h | ⟨h, k⟩
  · exact Or.inl h
  · exact Or.inr ⟨h.symm, k.le⟩
theorem below_of_not_stays {a b : EReal × BitVec 32} (h : ¬ Stays a b) : Below a b := by
  rcases lt_trichotomy a.1 b.1 with h1 | h1 | h1
  · exact Or.inl h1
  · exact Or.inr ⟨h1, not_lt.mp fun k => h (Or.inr ⟨h1, k⟩)⟩
  · exact absurd (Or.inl h1) h

/-- A step that keeps the better of two pairs. -/
def Better (f : EReal × BitVec 32 → EReal × BitVec 32 → EReal × BitVec 32) : Prop :=
  ∀ a b, (Stays a b ∧ f a b = a) ∨ (¬ Stays a b ∧ f a b = b)

theorem fold_better {f : EReal × BitVec 32 → EReal × BitVec 32 → EReal × BitVec 32} (hf : Better f) (l : List (EReal × BitVec 32)) :
    ∀ a, (l.foldl f a = a ∨ l.foldl f a ∈ l) ∧ Below a (l.foldl f a) ∧ ∀ q ∈ l, Below q (l.foldl f a) := by
  induction l with
  | nil => intro a; exact ⟨Or.inl rfl, below_refl a, fun q hq => absurd hq List.not_mem_nil⟩
  | cons b l ih =>
    intro a
    rw [List.foldl_cons]
    rcases hf a b with ⟨hs, e⟩ | ⟨hs, e⟩ <;> rw [e]
    · obtain ⟨h1, h2, h3⟩ := ih a
      refine ⟨h1.imp_right (List.mem_cons_of_mem _), h2, fun q hq => ?_⟩
      rcases List.mem_cons.mp hq with rfl | hq
      · exact below_trans (below_of_stays hs) h2
      · exact h3 q hq
    · obtain ⟨h1, h2, h3⟩ := ih b
      refine ⟨Or.inr ?_, below_trans (below_of_not_stays hs) h2, fun q hq => ?_⟩
      · rcases h1 with h1 | h1
        · rw [h1]; exact List.mem_cons_self
        · exact List.mem_cons_of_mem _ h1
      · rcases List.mem_cons.mp hq with rfl | hq
        · exact h2
        · exact h3 q hq

/-- The step of the host's search, on the extended reals. -/
theorem better_step (f : EReal × BitVec 32 → EReal × BitVec 32 → EReal × BitVec 32)
    (h : f = fun a b => (Scalar.select (IntOp.ori (Ideal.cmp .ogt a.1 b.1) (Ideal.cmp .une a.1 a.1)) a.1 b.1,
      Scalar.select (IntOp.ori (IntOp.ori (Ideal.cmp .ogt a.1 b.1) (Ideal.cmp .une a.1 a.1))
        (IntOp.andi (Ideal.cmp .oeq a.1 b.1) (IntOp.cmpi .slt a.2 b.2))) a.2 b.2)) : Better f := by
  subst h
  intro a b
  have e1 : Ideal.cmp .une a.1 a.1 = 0#1 := by simp [Ideal.cmp]
  have e2 : Ideal.cmp .ogt a.1 b.1 = BitVec.ofBool (decide (b.1 < a.1)) := by simp [Ideal.cmp]
  have e3 : Ideal.cmp .oeq a.1 b.1 = BitVec.ofBool (decide (a.1 = b.1)) := by simp [Ideal.cmp]
  have e4 : IntOp.cmpi .slt a.2 b.2 = BitVec.ofBool (decide (a.2.toInt < b.2.toInt)) := by simp [IntOp.cmpi, BitVec.slt]
  simp only [e1, e2, e3, e4]
  by_cases c1 : b.1 < a.1
  · left
    refine ⟨Or.inl c1, ?_⟩
    simp [c1, c1.ne', IntOp.ori, IntOp.andi, Scalar.select]
  · by_cases c2 : a.1 = b.1
    · by_cases c3 : a.2.toInt < b.2.toInt
      · left
        refine ⟨Or.inr ⟨c2, c3⟩, ?_⟩
        refine Prod.ext ?_ ?_
        · simp [c1, c2, IntOp.ori, IntOp.andi, Scalar.select]
        · simp [c2, c3, IntOp.ori, IntOp.andi, Scalar.select]
      · right
        refine ⟨fun h => h.elim c1 fun h => c3 h.2, ?_⟩
        simp [c2, c3, IntOp.ori, IntOp.andi, Scalar.select]
    · right
      refine ⟨fun h => h.elim c1 fun h => c2 h.1, ?_⟩
      simp [c1, c2, IntOp.ori, IntOp.andi, Scalar.select]

abbrev Sims : Shape := ⟨3, ![8, 1024, 1024]⟩
abbrev Rows : Shape := ⟨2, ![8, 1024]⟩
abbrev One : Shape := ⟨0, ![]⟩

theorem toInt_place (k : Fin 1024) : (BitVec.ofNat 32 k.val).toInt = k.val := by
  have hk := k.isLt
  have hn : (BitVec.ofNat 32 k.val).toNat = k.val := by rw [BitVec.toNat_ofNat]; omega
  rw [BitVec.toInt_eq_toNat_of_lt (by omega), hn]

theorem argmax_place (f : EReal × BitVec 32 → EReal × BitVec 32 → EReal × BitVec 32) (hf : Better f) (x : Sims.Idx → EReal)
    (b : Fin 8) (l : Fin 1024) (hx : ∀ k, ⊥ < x (ix3 b l k)) (h : Sims.ReducesTo [2] Rows) (hu : 0 < One.numel) :
    (Host.argReduce (F := Ideal) (φ := .f32) f x (iotaInDim Sims 32 2) (constant One .f32 0xFF800000#32) (constantI One 32 0#32) h hu (ix2 b l)).2
      = BitVec.ofNat 32 (win fun k => x (ix3 b l k)).val := by
  rw [Ideal.argReduce_eq_reduce2, Host.reduce2_eq_foldl_fiber]
  have hmem : ∀ q : EReal × BitVec 32, q ∈ Host.argReduceFiber x (iotaInDim Sims 32 2) h (ix2 b l)
      ↔ ∃ k : Fin 1024, q = (x (ix3 b l k), BitVec.ofNat 32 k.val) := by
    intro q
    unfold Host.argReduceFiber
    rw [List.mem_map]
    constructor
    · rintro ⟨n, hn, rfl⟩
      obtain ⟨k, hk⟩ := (h.fiber_r3_a2 _ _).1 (of_decide_eq_true (List.mem_filter.1 hn).2)
      exact ⟨k, by rw [← hk]; rfl⟩
    · rintro ⟨k, rfl⟩
      refine ⟨Sims.rowMajor (ix3 b l k), List.mem_filter.2 ⟨List.mem_finRange _, decide_eq_true ?_⟩, ?_⟩
      · rw [Equiv.symm_apply_apply]; exact (h.fiber_r3_a2 _ _).2 ⟨k, rfl⟩
      · rw [Equiv.symm_apply_apply]; rfl
  generalize Host.argReduceFiber x (iotaInDim Sims 32 2) h (ix2 b l) = L at hmem
  have hbot : (constant (F := Ideal) One .f32 0xFF800000#32 (Shape.Idx.first hu), constantI One 32 0#32 (Shape.Idx.first hu))
      = ((⊥ : EReal), 0#32) := Prod.ext ofBits_bot rfl
  rw [hbot]
  obtain ⟨h1, h2, h3⟩ := fold_better hf L ((⊥ : EReal), 0#32)
  generalize L.foldl f ((⊥ : EReal), 0#32) = r at h1 h2 h3
  have h0 : ∀ k, Below (x (ix3 b l k), BitVec.ofNat 32 k.val) r := fun k => h3 _ ((hmem _).2 ⟨k, rfl⟩)
  obtain ⟨w, hw⟩ : ∃ k : Fin 1024, r = (x (ix3 b l k), BitVec.ofNat 32 k.val) := by
    rcases h1 with h1 | h1
    · exfalso
      rcases h0 0 with c | ⟨c, -⟩
      · rw [h1] at c; exact absurd c not_lt_bot
      · rw [h1] at c; exact absurd c (hx 0).ne'
    · exact (hmem _).1 h1
  have hwin : IsWin (fun k => x (ix3 b l k)) w := by
    refine ⟨fun j => ?_, fun j hj => ?_⟩
    · rcases h0 j with c | ⟨c, -⟩
      · rw [hw] at c; exact c.le
      · rw [hw] at c; exact c.le
    · rcases h0 j with c | ⟨-, c⟩
      · rw [hw] at c; exact c
      · rw [hw] at c
        change (BitVec.ofNat 32 w.val).toInt ≤ (BitVec.ofNat 32 j.val).toInt at c
        rw [toInt_place, toInt_place] at c
        have : j.val < w.val := hj
        omega
  rw [hw, win_eq hwin]

/-- The tests the host makes of a place below 1024. -/
theorem slt_place (w : Fin 1024) : IntOp.cmpi .slt (BitVec.ofNat 32 w.val) 0#32 = 0#1 := by
  have h : (BitVec.ofNat 32 w.val).slt 0#32 = false := by rw [BitVec.slt, toInt_place]; simp
  simp [IntOp.cmpi, h]
theorem sge_place (w : Fin 1024) : IntOp.cmpi .sge (BitVec.ofNat 32 w.val) 0#32 = 1#1 := by
  have h : (0#32).sle (BitVec.ofNat 32 w.val) = true := by rw [BitVec.sle, toInt_place]; simp
  simp [IntOp.cmpi, h]
theorem sle_place (w : Fin 1024) : IntOp.cmpi .sle (BitVec.ofNat 32 w.val) 1023#32 = 1#1 := by
  have h : (BitVec.ofNat 32 w.val).sle 1023#32 = true := by
    have := w.isLt
    rw [BitVec.sle, toInt_place, show (1023#32 : BitVec 32).toInt = 1023 from by decide]
    simp; omega
  simp [IntOp.cmpi, h]

/-- The count the sum of squares is divided by. -/
theorem count_rows : max (∑ _b : Fin 8, ∑ _l : Fin 1024, (1 : EReal)) 1 * Ideal.ofBits .f32 0x42800000#32 = ((524288 : ℝ) : EReal) := by
  have h : (∑ _b : Fin 8, ∑ _l : Fin 1024, (1 : EReal)) = ((8192 : ℝ) : EReal) := by
    have e1 : (∑ _l : Fin 1024, (1 : EReal)) = ((1024 : ℝ) : EReal) := by
      refine (coe_sum Finset.univ fun _ : Fin 1024 => (1 : ℝ)).trans (congrArg _ ?_)
      simp
    rw [e1]
    refine (coe_sum Finset.univ fun _ : Fin 8 => (1024 : ℝ)).trans (congrArg _ ?_)
    simp; norm_num
  rw [h, ofBits_64, ← EReal.coe_one, coe_max, ← EReal.coe_mul]
  norm_num

/-! ## The rows of a table at given places -/

theorem take_rows {α : Type} (d : GatherDims ⟨2, ![1024, 64]⟩ ⟨3, ![8, 1024, 1]⟩ ⟨3, ![8, 1024, 64]⟩)
    (hoff : d.offsetDims = [2]) (hcoll : d.collapsedSliceDims = [0]) (hob : d.operandBatchingDims = [])
    (hsim : d.startIndexMap = [0]) (hivd : d.indexVectorDim = 2)
    (x : (⟨2, ![1024, 64]⟩ : Shape).Idx → α) (idx : IVec ⟨3, ![8, 1024, 1]⟩ 32) (b : Fin 8) (l : Fin 1024) (e : Fin 64) (w : Fin 1024)
    (hw : idx (ix3 b l 0) = BitVec.ofNat 32 w.val) :
    Host.gather d x idx (ix3 b l e) = x (ix2 w e) := by
  obtain ⟨od, cd, ob, sb, sm, iv, ss, wf⟩ := d
  dsimp only at hoff hcoll hob hsim hivd
  subst hoff hcoll hob hsim hivd
  unfold Host.gather
  congr 1
  have hs0 : ss 0 = 1 := GatherDims.slice_collapsed ⟨[2], [0], [], sb, [0], 2, ss, wf⟩ 0 (List.mem_singleton.mpr rfl)
  funext a
  apply Fin.ext
  match a with
  | ⟨0, _⟩ =>
    have hi : GatherDims.siIdx (⟨[2], [0], [], sb, [0], 2, ss, wf⟩ : GatherDims ⟨2, ![1024, 64]⟩ ⟨3, ![8, 1024, 1]⟩ ⟨3, ![8, 1024, 64]⟩)
        (ix3 b l e) ⟨0, Nat.zero_lt_one⟩ = ix3 b l 0 := by
      funext c
      match c with
      | ⟨0, _⟩ => rfl
      | ⟨1, _⟩ => rfl
      | ⟨2, _⟩ => rfl
    show min (idx (GatherDims.siIdx (⟨[2], [0], [], sb, [0], 2, ss, wf⟩ : GatherDims ⟨2, ![1024, 64]⟩ ⟨3, ![8, 1024, 1]⟩ ⟨3, ![8, 1024, 64]⟩)
      (ix3 b l e) ⟨0, Nat.zero_lt_one⟩)).toInt.toNat (1024 - ss 0) + 0 + 0 = w.val
    rw [hi, hw, toInt_place, hs0]
    have := w.isLt
    omega
  | ⟨1, _⟩ => show 0 + 0 + e.val = e.val; omega

end Cert.Proof.VQ
-- ==== Proof.RefVal.lean ====
/-
  What the reference leaves, read at an index.
-/
module

public import proofs.«01_k».proof.Proof.RefRun
public import proofs.«01_k».proof.Proof.Places
public import Idealize.ShloMosaic.Lib.Tactic.CleanTypes

@[expose] public section

set_option maxRecDepth 65536

noncomputable section

namespace Cert.Proof.RI

open Cert.ReferenceIdeal Cert.ReferenceIdeal.Gen
open Idealize.ShloMosaic Idealize.ShloMosaic.TcCoe
open Idealize.SL.Sem
open Cert.Proof.VQ

variable (m : (ℓ : Loc nD τ sig) → Buf (Elt Ideal) ℓ) (d : Dev nD)

abbrev zR (b : Fin 8) (l : Fin 1024) : Fin 384 → EReal := rowOf (m ((d.tc : Thread nD τ).loc main_arg0)) b l
abbrev wiR : Fin 384 → Fin 64 → EReal := matOf (m ((d.tc : Thread nD τ).loc main_arg2))
abbrev woR : Fin 64 → Fin 384 → EReal := matOf (m ((d.tc : Thread nD τ).loc main_arg4))
abbrev cbR : Fin 1024 → Fin 64 → EReal := matOf (m ((d.tc : Thread nD τ).loc main_arg6))

/-- The mask is one everywhere and the two shifts are zero. -/
structure Plain : Prop where
  mask : ∀ j, m ((d.tc : Thread nD τ).loc main_arg1) j = (1 : EReal)
  bin : ∀ j, m ((d.tc : Thread nD τ).loc main_arg3) j = (0 : EReal)
  bout : ∀ j, m ((d.tc : Thread nD τ).loc main_arg5) j = (0 : EReal)

/-- The rows projected and scaled to unit length. -/
theorem VH_v22 (h : Plain m d) (b : Fin 8) (l : Fin 1024) (e : Fin 64) :
    VH m d (Proc.devRef .tc main_v22) (ix3 b l e) = (unit (zR m d b l) (wiR m d) e : EReal) := by
  have h1 : ∀ j, m (d, Proc.devRef .tc main_arg1) j = (1 : EReal) := h.mask
  have h3 : ∀ j, m (d, Proc.devRef .tc main_arg3) j = (0 : EReal) := h.bin
  unfold VH opsH
  after_results_simp
  unfold StableHlo.launchContents
  pointwise
  simp only [h1, h3, mul_one, add_zero]
  rfl
theorem VH_arg1 : VH m d (Proc.devRef .tc main_arg1) = m ((d.tc : Thread nD τ).loc main_arg1) := by unfold VH opsH; after_results_simp
theorem VH_arg4 : VH m d (Proc.devRef .tc main_arg4) = m ((d.tc : Thread nD τ).loc main_arg4) := by unfold VH opsH; after_results_simp
theorem VH_arg5 : VH m d (Proc.devRef .tc main_arg5) = m ((d.tc : Thread nD τ).loc main_arg5) := by unfold VH opsH; after_results_simp
theorem VH_arg6 : VH m d (Proc.devRef .tc main_arg6) = m ((d.tc : Thread nD τ).loc main_arg6) := by unfold VH opsH; after_results_simp

/-- The codebook's rows scaled to unit length, -/
theorem VS_v30 (k : Fin 1024) (e : Fin 64) : VS m d (Proc.devRef .tc main_v30) (ix2 k e) = (nrm (cbR m d k) e : EReal) := by
  unfold VS opsS
  after_results_simp
  rw [VH_arg6]
  pointwise
  rfl
/-- and the similarities. -/
theorem VS_v31 (h : Plain m d) (b : Fin 8) (l : Fin 1024) (k : Fin 1024) :
    VS m d (Proc.devRef .tc main_v31) (ix3 b l k) = (sim (unit (zR m d b l) (wiR m d)) (cbR m d) k : EReal) := by
  have hv := VH_v22 m d h b l
  unfold VS opsS
  after_results_simp
  rw [VH_arg6]
  generalize VH m d (Proc.devRef .tc main_v22) = V at hv ⊢
  pointwise
  simp only [hv]
  rfl
theorem VS_v22 : VS m d (Proc.devRef .tc main_v22) = VH m d (Proc.devRef .tc main_v22) := by unfold VS opsS; after_results_simp
theorem VS_arg1 : VS m d (Proc.devRef .tc main_arg1) = m ((d.tc : Thread nD τ).loc main_arg1) := by unfold VS opsS; after_results_simp; exact VH_arg1 m d
theorem VS_arg4 : VS m d (Proc.devRef .tc main_arg4) = m ((d.tc : Thread nD τ).loc main_arg4) := by unfold VS opsS; after_results_simp; exact VH_arg4 m d
theorem VS_arg5 : VS m d (Proc.devRef .tc main_arg5) = m ((d.tc : Thread nD τ).loc main_arg5) := by unfold VS opsS; after_results_simp; exact VH_arg5 m d

/-- The chosen place. -/
abbrev winR (b : Fin 8) (l : Fin 1024) : Fin 1024 := win (sim (unit (zR m d b l) (wiR m d)) (cbR m d))

theorem better_argmax : Better (reducer_argmax_f32_i32 (F := Ideal)) := better_step _ rfl

theorem VM_v32 (h : Plain m d) (b : Fin 8) (l : Fin 1024) :
    VM m d (Proc.devRef .tc main_v32) (ix2 b l) = (BitVec.ofNat 32 (winR m d b l).val : BitVec 32) := by
  have hv := VS_v31 m d h b l
  unfold VM opsM
  after_results_simp
  generalize VS m d (Proc.devRef .tc main_v31) = V at hv ⊢
  simp only [StableHlo.TRef.ofBuf_toBuf, id]
  simp -implicitDefEqProofs only [StableHlo.TRef.toBuf, StableHlo.TRef.ofBuf, cast_cast, cast_eq]
  have hw : (fun k => V (ix3 b l k) : Fin 1024 → EReal) = sim (unit (zR m d b l) (wiR m d)) (cbR m d) := funext fun k => hv k
  obtain ⟨f, hf⟩ := sim_real (zR m d b l) (wiR m d) (cbR m d)
  refine (argmax_place _ better_argmax V b l (fun k => ?_) _ _).trans ?_
  · rw [hv, hf]; exact EReal.bot_lt_coe _
  · rw [hw]
theorem VM_v22 : VM m d (Proc.devRef .tc main_v22) = VH m d (Proc.devRef .tc main_v22) := by unfold VM opsM; after_results_simp; exact VS_v22 m d
theorem VM_v30 : VM m d (Proc.devRef .tc main_v30) = VS m d (Proc.devRef .tc main_v30) := by unfold VM opsM; after_results_simp
theorem VM_arg1 : VM m d (Proc.devRef .tc main_arg1) = m ((d.tc : Thread nD τ).loc main_arg1) := by unfold VM opsM; after_results_simp; exact VS_arg1 m d
theorem VM_arg4 : VM m d (Proc.devRef .tc main_arg4) = m ((d.tc : Thread nD τ).loc main_arg4) := by unfold VM opsM; after_results_simp; exact VS_arg4 m d
theorem VM_arg5 : VM m d (Proc.devRef .tc main_arg5) = m ((d.tc : Thread nD τ).loc main_arg5) := by unfold VM opsM; after_results_simp; exact VS_arg5 m d

/-- The chosen rows of the codebook. -/
theorem VQ_v33 (h : Plain m d) (b : Fin 8) (l : Fin 1024) (e : Fin 64) :
    VQ m d (Proc.devRef .tc main_v33) (ix3 b l e) = (nrm (cbR m d (winR m d b l)) e : EReal) := by
  have hi := VM_v32 m d h
  have ht := VS_v30 m d
  rw [← VM_v30] at ht
  unfold VQ opsQ
  after_results_simp
  generalize VM m d (Proc.devRef .tc main_v32) = I at hi ⊢
  generalize VM m d (Proc.devRef .tc main_v30) = T at ht ⊢
  simp only [StableHlo.TRef.ofBuf_toBuf, id]
  simp -implicitDefEqProofs only [StableHlo.TRef.toBuf, StableHlo.TRef.ofBuf, cast_cast, cast_eq]
  have h0 : IntOp.cmpi CmpIPredicate.slt (I (ix2 b l)) 0#32 = 0#1 := by rw [hi]; exact slt_place _
  have hg : ∀ J : S8x1024x1.Idx → BitVec 32, J (ix3 b l 0) = BitVec.ofNat 32 (winR m d b l).val →
      Host.gather gather_S1024x64_S8x1024x1_S8x1024x64_2_0_n_n_0_2_164 T J (ix3 b l e) = T (ix2 (winR m d b l) e) :=
    fun J hJ => take_rows _ rfl rfl rfl rfl rfl T J b l e _ hJ
  pointwise
  rw [hg _ (by pointwise; rw [h0, hi]; rfl), ht, h0, hi]
  rw [show Scalar.select (0#1) (IntOp.addi (BitVec.ofNat 32 (winR m d b l).val) 1024#32) (BitVec.ofNat 32 (winR m d b l).val)
    = BitVec.ofNat 32 (winR m d b l).val from rfl, sge_place, sle_place]
  rfl
theorem VQ_v22 : VQ m d (Proc.devRef .tc main_v22) = VH m d (Proc.devRef .tc main_v22) := by unfold VQ opsQ; after_results_simp; exact VM_v22 m d
theorem VQ_v32 : VQ m d (Proc.devRef .tc main_v32) = VM m d (Proc.devRef .tc main_v32) := by unfold VQ opsQ; after_results_simp
theorem VQ_arg1 : VQ m d (Proc.devRef .tc main_arg1) = m ((d.tc : Thread nD τ).loc main_arg1) := by unfold VQ opsQ; after_results_simp; exact VM_arg1 m d
theorem VQ_arg4 : VQ m d (Proc.devRef .tc main_arg4) = m ((d.tc : Thread nD τ).loc main_arg4) := by unfold VQ opsQ; after_results_simp; exact VM_arg4 m d
theorem VQ_arg5 : VQ m d (Proc.devRef .tc main_arg5) = m ((d.tc : Thread nD τ).loc main_arg5) := by unfold VQ opsQ; after_results_simp; exact VM_arg5 m d

/-- The projected rows. -/
theorem VO_v39 (h : Plain m d) (b : Fin 8) (l : Fin 1024) (c : Fin 384) :
    VO m d (Proc.devRef .tc main_v39) (ix3 b l c) = (∑ e, nrm (cbR m d (winR m d b l)) e * woR m d e c : EReal) := by
  have hq := VQ_v33 m d h b l
  have hx := VH_v22 m d h b l
  have h5 : ∀ j, m ((d.tc : Thread nD τ).loc main_arg5) j = (0 : EReal) := h.bout
  rw [← VQ_v22] at hx
  unfold VO opsO
  after_results_simp
  rw [VQ_arg4, VQ_arg5]
  generalize VQ m d (Proc.devRef .tc main_v33) = Q at hq ⊢
  generalize VQ m d (Proc.devRef .tc main_v22) = X at hx ⊢
  pointwise
  simp only [h5, hq, hx, add_zero, ste]
  rfl
theorem VO_v22 : VO m d (Proc.devRef .tc main_v22) = VH m d (Proc.devRef .tc main_v22) := by unfold VO opsO; after_results_simp; exact VQ_v22 m d
theorem VO_v32 : VO m d (Proc.devRef .tc main_v32) = VM m d (Proc.devRef .tc main_v32) := by unfold VO opsO; after_results_simp; exact VQ_v32 m d
theorem VO_v33 : VO m d (Proc.devRef .tc main_v33) = VQ m d (Proc.devRef .tc main_v33) := by unfold VO opsO; after_results_simp
theorem VO_arg1 : VO m d (Proc.devRef .tc main_arg1) = m ((d.tc : Thread nD τ).loc main_arg1) := by unfold VO opsO; after_results_simp; exact VQ_arg1 m d

/-- The squared distance to the chosen row. -/
abbrev distR (b : Fin 8) (l : Fin 1024) : EReal := VQ.dist (zR m d b l) (wiR m d) (cbR m d)

/-- The loss. -/
theorem VL_v57 (h : Plain m d) (i) : VL m d (Proc.devRef .tc main_v57) i
    = (Ideal.div (∑ b : Fin 8, ∑ l : Fin 1024, distR m d b l) ((524288 : ℝ) : EReal)
      + Ideal.ofBits .f32 0x3E800000#32 * Ideal.div (∑ b : Fin 8, ∑ l : Fin 1024, distR m d b l) ((524288 : ℝ) : EReal) : EReal) := by
  have hq := VQ_v33 m d h
  have hx := VH_v22 m d h
  have h1 : ∀ j, m ((d.tc : Thread nD τ).loc main_arg1) j = (1 : EReal) := h.mask
  rw [← VO_v22] at hx
  rw [← VO_v33] at hq
  unfold VL opsL
  after_results_simp
  rw [VO_arg1]
  generalize VO m d (Proc.devRef .tc main_v33) = Q at hq ⊢
  generalize VO m d (Proc.devRef .tc main_v22) = X at hx ⊢
  pointwise
  simp only [h1, hq, hx, mul_one]
  rw [count_rows]
  have hd : ∀ b l, (∑ e, (unit (zR m d b l) (wiR m d) e - nrm (cbR m d (winR m d b l)) e)
      * (unit (zR m d b l) (wiR m d) e - nrm (cbR m d (winR m d b l)) e)) = distR m d b l := fun _ _ => rfl
  simp only [hd]
theorem VL_v39 : VL m d (Proc.devRef .tc main_v39) = VO m d (Proc.devRef .tc main_v39) := by unfold VL opsL; after_results_simp
theorem VL_v32 : VL m d (Proc.devRef .tc main_v32) = VM m d (Proc.devRef .tc main_v32) := by unfold VL opsL; after_results_simp; exact VO_v32 m d

end Cert.Proof.RI
-- ==== Proof.Asked.lean ====
/-
  What the claim asks of the inputs, read at an index: the mask of ones and the zero shifts, and the rows with one greatest
  similarity.
-/
module

public import proofs.«01_k».proof.Defs
public import proofs.«01_k».proof.Proof.Places

@[expose] public section

set_option maxRecDepth 65536

noncomputable section

namespace Cert.Proof.VQ

open Idealize.ShloMosaic

/-! ## The side conditions of the two functions -/

instance factsPre : Cert.Pre_plain_inputs.Facts where
  bcast_S_S8x1024 := by decide
  bcast_S_S64 := by decide
  bcast_S_S384 := by decide

instance factsOn : Cert.On_loss_where_one_winner.Facts where
  reducesTo_S8x1024x384_S8x1024_d2 := by decide
  h_S_ := by decide
  bcast_S8x1024_S8x1024x1_0_1 := by decide
  bcast_S_S8x1024x1 := by decide
  bcast_S8x1024x1_S8x1024x384_0_1_2 := by decide
  reducesTo_S8x1024x64_S8x1024_d2 := by decide
  bcast_S8x1024x1_S8x1024x64_0_1_2 := by decide
  reducesTo_S1024x64_S1024_d1 := by decide
  bcast_S1024_S1024x1_0 := by decide
  bcast_S_S1024x1 := by decide
  bcast_S1024x1_S1024x64_0_1 := by decide
  reducesTo_S8x1024x1024_S8x1024_d2 := by decide
  bcast_S8x1024x1_S8x1024x1024_0_1_2 := by decide
  reducesTo_S8x1024x1024_S_d0_1_2 := by decide
  bcast_S_S8x1024x384 := by decide
  bcast_S_S8x1024 := by decide
  dot_S8x1024x384_S384x64_S8x1024x64_2_0_01_1_n_n_wf := by decide
  dot_S8x1024x64_S1024x64_S8x1024x1024_2_1_01_0_n_n_wf := by decide

/-! ## The plain inputs -/

section plain
open Cert.Pre_plain_inputs

theorem of_ofBool {p : Prop} [Decidable p] (h : BitVec.ofBool (decide p) = 1#1) : p := by
  by_contra hp
  rw [decide_eq_false hp] at h
  exact absurd h (by decide)

theorem ofBits_one : Ideal.ofBits .f32 0x3F800000#32 = 1 := by
  simp [Ideal.ofBits, Ideal.ieee]; norm_num; rw [← EReal.coe_mul]; norm_num

variable (a0 : FVec Ideal S8x1024x384 .f32) (a1 : FVec Ideal S8x1024 .f32) (a2 : FVec Ideal S384x64 .f32) (a3 : FVec Ideal S64 .f32)
  (a4 : FVec Ideal S64x384 .f32) (a5 : FVec Ideal S384 .f32) (a6 : FVec Ideal S1024x64 .f32)

theorem plain_mask (h : (fn a0 a1 a2 a3 a4 a5 a6).1 = fun _ => 1#1) (j : S8x1024.Idx) : a1 j = (1 : EReal) := by
  have h : cmpf .oeq a1 (broadcastInDim S8x1024 ![] Facts.bcast_S_S8x1024 (constant (F := Ideal) S_ .f32 0x3F800000#32)) j = 1#1 := congrFun h j
  revert h
  pointwise
  exact of_ofBool
theorem plain_in (h : (fn a0 a1 a2 a3 a4 a5 a6).2.1 = fun _ => 1#1) (j : S64.Idx) : a3 j = (0 : EReal) := by
  have h : cmpf .oeq a3 (broadcastInDim S64 ![] Facts.bcast_S_S64 (constant (F := Ideal) S_ .f32 0x00000000#32)) j = 1#1 := congrFun h j
  revert h
  pointwise
  exact of_ofBool
theorem plain_out (h : (fn a0 a1 a2 a3 a4 a5 a6).2.2 = fun _ => 1#1) (j : S384.Idx) : a5 j = (0 : EReal) := by
  have h : cmpf .oeq a5 (broadcastInDim S384 ![] Facts.bcast_S_S384 (constant (F := Ideal) S_ .f32 0x00000000#32)) j = 1#1 := congrFun h j
  revert h
  pointwise
  exact of_ofBool
end plain

/-! ## One greatest similarity -/

section one
open Cert.On_loss_where_one_winner Cert.On_loss_where_one_winner.Facts

variable (a0 : FVec Ideal S8x1024x384 .f32) (a1 : FVec Ideal S8x1024 .f32) (a2 : FVec Ideal S384x64 .f32) (a3 : FVec Ideal S64 .f32)
  (a4 : FVec Ideal S64x384 .f32) (a5 : FVec Ideal S384 .f32) (a6 : FVec Ideal S1024x64 .f32)

theorem andi_one {x y : BitVec 1} (h : IntOp.andi x y = 1#1) : x = 1#1 ∧ y = 1#1 := by
  revert h; revert x y; decide

/-- What holds of all together holds of each. -/
theorem fold_andi {ι : Type} [DecidableEq ι] (s : Finset ι) (c : BitVec 1) (f : ι → BitVec 1) (h : s.fold IntOp.andi c f = 1#1) : ∀ i ∈ s, f i = 1#1 := by
  induction s using Finset.induction_on with
  | empty => intro i hi; exact absurd hi (Finset.notMem_empty i)
  | insert a s ha ih =>
    rw [Finset.fold_insert ha] at h
    obtain ⟨h1, h2⟩ := andi_one h
    intro i hi
    rcases Finset.mem_insert.1 hi with rfl | hi
    · exact h1
    · exact ih h2 i hi

theorem reduce_andi {s : Shape} {axes : List (Fin s.rank)} (x : s.Idx → BitVec 1) (c : One.Idx → BitVec 1) (h : s.ReducesTo axes One)
    (hu : 0 < One.numel) (i : One.Idx) (hr : Host.reduce IntOp.andi x c h hu i = 1#1) (j : s.Idx) : x j = 1#1 := by
  rw [Host.reduce_eq_fold] at hr
  have e : h.drop j = i := funext fun a => a.elim0
  exact fold_andi _ _ _ hr j (Finset.mem_filter.2 ⟨Finset.mem_univ _, e⟩)

theorem fn_sims : ∃ V : Sims.Idx → EReal,
    (∀ (b : Fin 8) (l k : Fin 1024), V (ix3 b l k) = sim (unit (rowOf a0 b l) (matOf a2)) (matOf a6) k)
    ∧ (fn a0 a1 a2 a3 a4 a5 a6).2.1 = Host.reduce IntOp.andi
        (ori (cmpf .olt (V : FVec Ideal S8x1024x1024 .f32) (broadcastInDim S8x1024x1024 ![0, 1, 2] bcast_S8x1024x1_S8x1024x1024_0_1_2
            (broadcastInDim S8x1024x1 ![0, 1] bcast_S8x1024_S8x1024x1_0_1
              (Host.reduce (FloatOps.maximumf (F := Ideal) (φ := .f32)) (V : FVec Ideal S8x1024x1024 .f32) (constant S_ .f32 0xFF800000#32) reducesTo_S8x1024x1024_S8x1024_d2 h_S_))))
          (cmpi .eq (iotaInDim S8x1024x1024 32 2) (broadcastInDim S8x1024x1024 ![0, 1, 2] bcast_S8x1024x1_S8x1024x1024_0_1_2
            (broadcastInDim S8x1024x1 ![0, 1] bcast_S8x1024_S8x1024x1_0_1 (fn_argmax (F := Ideal) V)))))
        (constantI S_ 1 1#1) reducesTo_S8x1024x1024_S_d0_1_2 h_S_ := by
  unfold fn fn_part1 fn_part2
  dsimp only
  refine ⟨_, fun b l k => ?_, rfl⟩
  pointwise
  rfl

theorem max_row (V : Sims.Idx → EReal) (h : Sims.ReducesTo [2] Rows) (hu : 0 < One.numel) (b : Fin 8) (l : Fin 1024) :
    Host.reduce (FloatOps.maximumf (F := Ideal) (φ := .f32)) V (constant (F := Ideal) One .f32 0xFF800000#32) h hu (ix2 b l)
      = Finset.fold max (Ideal.ofBits .f32 0xFF800000#32) (fun k => V (ix3 b l k)) Finset.univ := by
  pointwise

/-- Below the greatest of its row, or at the chosen place. -/
theorem ones_read (V : FVec Ideal S8x1024x1024 .f32) (M : FVec Ideal S8x1024 .f32) (A : IVec S8x1024 32) (b : Fin 8) (l k : Fin 1024) :
    ori (cmpf .olt V (broadcastInDim S8x1024x1024 ![0, 1, 2] bcast_S8x1024x1_S8x1024x1024_0_1_2
            (broadcastInDim S8x1024x1 ![0, 1] bcast_S8x1024_S8x1024x1_0_1 M)))
        (cmpi .eq (iotaInDim S8x1024x1024 32 2) (broadcastInDim S8x1024x1024 ![0, 1, 2] bcast_S8x1024x1_S8x1024x1024_0_1_2
            (broadcastInDim S8x1024x1 ![0, 1] bcast_S8x1024_S8x1024x1_0_1 A))) (ix3 b l k)
      = IntOp.ori (BitVec.ofBool (decide ((V (ix3 b l k) : EReal) < M (ix2 b l)))) (IntOp.cmpi .eq (BitVec.ofNat 32 k.val) (A (ix2 b l))) := by
  pointwise

theorem better_asked : Better (reducer_argmax_f32_i32 (F := Ideal)) := better_step _ rfl

theorem argmax_asked (V : FVec Ideal S8x1024x1024 .f32) : fn_argmax (F := Ideal) V
    = fun j => (Host.argReduce reducer_argmax_f32_i32 V (iotaInDim S8x1024x1024 32 2) (constant S_ .f32 0xFF800000#32) (constantI S_ 32 0#32)
      reducesTo_S8x1024x1024_S8x1024_d2 h_S_ j).2 := rfl

theorem place_asked (V : FVec Ideal S8x1024x1024 .f32) (b : Fin 8) (l : Fin 1024) (hx : ∀ k, (⊥ : EReal) < V (ix3 b l k)) :
    fn_argmax (F := Ideal) V (ix2 b l) = BitVec.ofNat 32 (win fun k => V (ix3 b l k)).val :=
  (congrFun (argmax_asked V) _).trans (argmax_place _ better_asked V b l hx _ _)

/-- Two places below 1024 with the same word are the same. -/
theorem place_inj {k w : Fin 1024} (h : IntOp.cmpi .eq (BitVec.ofNat 32 k.val) (BitVec.ofNat 32 w.val) = 1#1) : k = w := by
  have e : BitVec.ofNat 32 k.val = BitVec.ofNat 32 w.val := by
    by_contra hne
    have hf : (BitVec.ofNat 32 k.val == BitVec.ofNat 32 w.val) = false := beq_false_of_ne hne
    simp only [IntOp.cmpi, hf] at h
    exact absurd h (by decide)
  have h2 := congrArg BitVec.toInt e
  rw [toInt_place, toInt_place] at h2
  exact Fin.ext (by exact_mod_cast h2)

theorem ori_one {p : Prop} [Decidable p] {y : BitVec 1} (h : IntOp.ori (BitVec.ofBool (decide p)) y = 1#1) (hy : y ≠ 1#1) : p := by
  by_contra hp
  rw [decide_eq_false hp] at h
  refine hy ?_
  revert h; revert y; decide

theorem one_winner (i) (h : (fn a0 a1 a2 a3 a4 a5 a6).2.1 i = 1#1) (b : Fin 8) (l k : Fin 1024)
    (hk : k ≠ win (sim (unit (rowOf a0 b l) (matOf a2)) (matOf a6))) :
    sim (unit (rowOf a0 b l) (matOf a2)) (matOf a6) k
      < sim (unit (rowOf a0 b l) (matOf a2)) (matOf a6) (win (sim (unit (rowOf a0 b l) (matOf a2)) (matOf a6))) := by
  obtain ⟨V, hV, e⟩ := fn_sims a0 a1 a2 a3 a4 a5 a6
  have hw : (fun k => V (ix3 b l k)) = sim (unit (rowOf a0 b l) (matOf a2)) (matOf a6) := funext fun k => hV b l k
  have hA : fn_argmax (F := Ideal) V (ix2 b l) = BitVec.ofNat 32 (win (sim (unit (rowOf a0 b l) (matOf a2)) (matOf a6))).val := by
    obtain ⟨f, hf⟩ := sim_real (rowOf a0 b l) (matOf a2) (matOf a6)
    refine (place_asked V b l fun k => ?_).trans ?_
    · rw [hV, hf]; exact EReal.bot_lt_coe _
    · rw [hw]
  have hM := max_row V reducesTo_S8x1024x1024_S8x1024_d2 h_S_ b l
  rw [hw, ofBits_bot, fold_max_eq] at hM
  have h := reduce_andi _ _ _ _ _ ((congrFun e i).symm.trans h) (ix3 b l k)
  rw [ones_read, hA, hV] at h
  have hlt := ori_one h fun hy => hk (place_inj hy)
  exact hlt.trans_eq hM

end one

end Cert.Proof.VQ
-- ==== Proof.Equal.lean ====
/-
  The kernel's results are the reference's, on the inputs the claim names.
-/
module

public import proofs.«01_k».proof.Proof.ValI3
public import proofs.«01_k».proof.Proof.RefVal
public import proofs.«01_k».proof.Proof.Asked

@[expose] public section

set_option maxRecDepth 16384

noncomputable section

namespace Cert.Proof.EQ

open Idealize.ShloMosaic Idealize.SL.Sem
open Cert.Proof.VQ

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (d : Dev Cert.KernelIdeal.nD)

/-- What the kernel's memory holds at a buffer, -/
abbrev atK (r : Ref Cert.KernelIdeal.sig .tc) := m ((d.tc : Thread Cert.KernelIdeal.nD Cert.KernelIdeal.τ).loc r)
/-- and the reference's. -/
abbrev atR (r : Ref Cert.ReferenceIdeal.sig .tc) := m' ((d.tc : Thread Cert.ReferenceIdeal.nD Cert.ReferenceIdeal.τ).loc r)

/-- The two memories hold the same arguments. -/
abbrev Same : Prop :=
  atR m' d Cert.ReferenceIdeal.main_arg0 = atK m d Cert.KernelIdeal.main_arg0
  ∧ atR m' d Cert.ReferenceIdeal.main_arg1 = atK m d Cert.KernelIdeal.main_arg1
  ∧ atR m' d Cert.ReferenceIdeal.main_arg2 = atK m d Cert.KernelIdeal.main_arg2
  ∧ atR m' d Cert.ReferenceIdeal.main_arg3 = atK m d Cert.KernelIdeal.main_arg3
  ∧ atR m' d Cert.ReferenceIdeal.main_arg4 = atK m d Cert.KernelIdeal.main_arg4
  ∧ atR m' d Cert.ReferenceIdeal.main_arg5 = atK m d Cert.KernelIdeal.main_arg5
  ∧ atR m' d Cert.ReferenceIdeal.main_arg6 = atK m d Cert.KernelIdeal.main_arg6

variable {m m' d}

theorem z_eq (h : Same m m' d) (b : Fin 8) (l : Fin 1024) : RI.zR m' d b l = KI.zR m d b l := congrArg (fun a => rowOf a b l) h.1
theorem wi_eq (h : Same m m' d) : RI.wiR m' d = KI.wiR m d := congrArg (matOf (a := 384) (b := 64)) h.2.2.1
theorem wo_eq (h : Same m m' d) : RI.woR m' d = KI.woR m d := congrArg (matOf (a := 64) (b := 384)) h.2.2.2.2.1
theorem cb_eq (h : Same m m' d) : RI.cbR m' d = KI.cbR m d := congrArg (matOf (a := 1024) (b := 64)) h.2.2.2.2.2.2

theorem win_eq (h : Same m m' d) (b : Fin 8) (l : Fin 1024) : RI.winR m' d b l = KI.winR m d b l := by
  show win (sim (unit (RI.zR m' d b l) (RI.wiR m' d)) (RI.cbR m' d)) = win (sim (unit (KI.zR m d b l) (KI.wiR m d)) (KI.cbR m d))
  rw [z_eq h, wi_eq h, cb_eq h]

theorem dist_eq (h : Same m m' d) (b : Fin 8) (l : Fin 1024) : RI.distR m' d b l = KI.distR m d b l := by
  show VQ.dist (RI.zR m' d b l) (RI.wiR m' d) (RI.cbR m' d) = VQ.dist (KI.zR m d b l) (KI.wiR m d) (KI.cbR m d)
  rw [z_eq h, wi_eq h, cb_eq h]

/-- The inputs named by the claim, read on the reference's memory. -/
theorem plain (hp : Cert.Pre_KernelIdeal_plain_inputs m) (h : Same m m' d) : RI.Plain m' d where
  mask j := (congrFun h.2.1 j).trans (plain_mask _ _ _ _ _ _ _ (hp d).1 j)
  bin j := (congrFun h.2.2.2.1 j).trans (plain_in _ _ _ _ _ _ _ (hp d).2.1 j)
  bout j := (congrFun h.2.2.2.2.2.1 j).trans (plain_out _ _ _ _ _ _ _ (hp d).2.2 j)

/-- The rows agree, -/
theorem rows_eq (hp : Cert.Pre_KernelIdeal_plain_inputs m) (h : Same m m' d) (i : (⟨3, ![8, 1024, 384]⟩ : Shape).Idx) :
    RI.VL m' d (Proc.devRef .tc Cert.ReferenceIdeal.main_v39) i = (KI.W5 m d (Proc.devRef .tc Cert.KernelIdeal.main_v5) i : EReal) := by
  obtain ⟨b, l, c, rfl⟩ : ∃ b l c, i = ix3 b l c := ⟨_, _, _, eq_ix3 i⟩
  refine (congrFun (RI.VL_v39 m' d) _).trans ((RI.VO_v39 m' d (plain hp h) b l c).trans (Eq.trans ?_ (KI.row_val m d b l c).symm))
  rw [win_eq h, cb_eq h, wo_eq h]

/-- and the places, -/
theorem places_eq (hp : Cert.Pre_KernelIdeal_plain_inputs m) (h : Same m m' d) (i : (⟨2, ![8, 1024]⟩ : Shape).Idx) :
    RI.VL m' d (Proc.devRef .tc Cert.ReferenceIdeal.main_v32) i = (KI.W5 m d (Proc.devRef .tc Cert.KernelIdeal.main_v7) i : BitVec 32) := by
  obtain ⟨b, l, rfl⟩ : ∃ b l, i = ix2 b l := ⟨_, _, eq_ix2 i⟩
  refine (congrFun (RI.VL_v32 m' d) _).trans ((RI.VM_v32 m' d (plain hp h) b l).trans (Eq.trans ?_ (KI.place_val m d b l).symm))
  rw [win_eq h]

/-- and the losses, where every row has one greatest similarity. -/
theorem loss_eq (hp : Cert.Pre_KernelIdeal_plain_inputs m) (h : Same m m' d) (i : (⟨0, ![]⟩ : Shape).Idx)
    (ho : (Cert.On_loss_where_one_winner.fn (F := Ideal) (atK m d Cert.KernelIdeal.main_arg0) (atK m d Cert.KernelIdeal.main_arg1)
      (atK m d Cert.KernelIdeal.main_arg2) (atK m d Cert.KernelIdeal.main_arg3) (atK m d Cert.KernelIdeal.main_arg4)
      (atK m d Cert.KernelIdeal.main_arg5) (atK m d Cert.KernelIdeal.main_arg6)).2.1 i = 1#1) :
    RI.VL m' d (Proc.devRef .tc Cert.ReferenceIdeal.main_v57) i = (KI.W5 m d (Proc.devRef .tc Cert.KernelIdeal.main_v6) i : EReal) := by
  have hw : KI.OneWinner m d := fun b l k hk => one_winner _ _ _ _ _ _ _ i ho b l k hk
  refine (RI.VL_v57 m' d (plain hp h) i).trans (Eq.trans ?_ (KI.loss_val m d hw i).symm)
  simp only [dist_eq h]

end Cert.Proof.EQ
-- ==== Proof.lean ====
module

public import proofs.«01_k».proof.Defs
public import proofs.«01_k».proof.Proof.Gen.ReferenceIdeal
public import proofs.«01_k».proof.Proof.RefRun
public import proofs.«01_k».proof.Proof.FrameI
public import proofs.«01_k».proof.Proof.FrameB
public import proofs.«01_k».proof.Proof.Equal

@[expose] public section

noncomputable section

namespace Cert.Proof

open Idealize.ShloMosaic Idealize.SL.Sem

/-- The kernel's run leaves its arguments as they were and every counter at zero. -/
theorem frame_kernel : Cert.quiescent_Kernel (hKernel := Cert.Kernel.Gen.facts) := fun m g _ =>
  (θ_run Cert.Kernel.defs _ _).mono (fun _ h => ⟨h.1, h.2.1⟩) (KB.run_ends (F := Bits) m g)

/-- The same of its reading over the reals. -/
theorem frame_kernelIdeal : Cert.quiescent_KernelIdeal (hKernelIdeal := Cert.KernelIdeal.Gen.facts) := fun m g _ =>
  (θ_run Cert.KernelIdeal.defs _ _).mono (fun _ h => ⟨h.1, h.2.1⟩) (KI.run_ends (F := Ideal) m g)

/-- The same of the reference. -/
theorem frame_referenceIdeal : Cert.quiescent_ReferenceIdeal (hReferenceIdeal := Cert.ReferenceIdeal.Gen.facts) := fun m g _ =>
  (θ_run Cert.ReferenceIdeal.defs _ _).mono (fun _ h => h.1) (RI.run_ends (F := Ideal) m g)

/-- The two again, with the inputs named. -/
theorem frame_kernelIdeal_plain : Cert.quiescent_KernelIdeal_pre_plain_inputs (hKernelIdeal := Cert.KernelIdeal.Gen.facts)
    (hPre_plain_inputs := VQ.factsPre) := fun m g _ => frame_kernelIdeal m g trivial
theorem frame_referenceIdeal_plain : Cert.quiescent_ReferenceIdeal_pre_plain_inputs (hReferenceIdeal := Cert.ReferenceIdeal.Gen.facts)
    (hPre_plain_inputs := VQ.factsPre) := fun m g _ => frame_referenceIdeal m g trivial

/-- The kernel and the reference agree over the reals. -/
theorem algebra : Cert.algebraic_KernelIdeal_ReferenceIdeal_on_loss_where_one_winner_pre_plain_inputs
    (hKernelIdeal := Cert.KernelIdeal.Gen.facts) (hReferenceIdeal := Cert.ReferenceIdeal.Gen.facts)
    (hPre_plain_inputs := VQ.factsPre) (hOn_loss_where_one_winner := VQ.factsOn) := fun m g m' g' hp hs =>
  ⟨fun d => KI.W5 m d (Proc.devRef .tc Cert.KernelIdeal.main_v5), fun d => KI.W5 m d (Proc.devRef .tc Cert.KernelIdeal.main_v6),
    fun d => KI.W5 m d (Proc.devRef .tc Cert.KernelIdeal.main_v7),
    (θ_run Cert.KernelIdeal.defs _ _).mono (fun _ h d => ⟨fun i _ => congrFun (h.2.2 d).1 i, fun i _ => congrFun (h.2.2 d).2.1 i,
      fun i _ => congrFun (h.2.2 d).2.2 i, h.1 d⟩) (KI.run_ends (F := Ideal) m g),
    (θ_run Cert.ReferenceIdeal.defs _ _).mono (fun _ h d => ⟨fun i _ => (congrFun (h.2 d).1 i).trans (EQ.rows_eq hp (hs d) i),
      fun i ho => (congrFun (h.2 d).2.1 i).trans (EQ.loss_eq hp (hs d) i ho),
      fun i _ => (congrFun (h.2 d).2.2 i).trans (EQ.places_eq hp (hs d) i), h.1.1 d⟩) (RI.run_ends (F := Ideal) m' g')⟩

theorem claim : Cert.Claim := ⟨Cert.Kernel.Gen.facts, Cert.KernelIdeal.Gen.facts, Cert.ReferenceIdeal.Gen.facts, VQ.factsPre, VQ.factsOn,
  frame_kernel, frame_kernelIdeal, frame_kernelIdeal_plain, frame_referenceIdeal, frame_referenceIdeal_plain, trivial, algebra⟩

end Cert.Proof

end
